-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 128]⟩ ⟨2, ![128, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S32x128 : Shape := ⟨2, ![32, 128]⟩
abbrev S3x128x128 : Shape := ⟨3, ![3, 128, 128]⟩
abbrev S3x3x128x128 : Shape := ⟨4, ![3, 3, 128, 128]⟩
abbrev S3x3 : Shape := ⟨2, ![3, 3]⟩
abbrev S_ : Shape := ⟨0, ![]⟩
abbrev S1x128x128 : Shape := ⟨3, ![1, 128, 128]⟩
abbrev S1x1 : Shape := ⟨2, ![1, 1]⟩
abbrev S1x1x128x128 : Shape := ⟨4, ![1, 1, 128, 128]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S32x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S32x128, .f32⟩
  | .local _ .vmem, ⟨8, _⟩ => ⟨S3x128x128, .bf16⟩
  | .local _ .vmem, ⟨9, _⟩ => ⟨S3x3x128x128, .bf16⟩
  | .local _ .vmem, ⟨10, _⟩ => ⟨S128x128, .f32⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v58 : BitVec 32 := Scalar.addi v2 c2_i32_38
  let c4_i32_39 : BitVec 32 := 4#32
  let c0_i32_40 : BitVec 32 := 0#32
  let v59 : BitVec 1 := Scalar.cmpi .eq c4_i32_39 c0_i32_40
  let c1_i32_41 : BitVec 32 := 1#32
  let v60 : BitVec 32 := Scalar.select v59 c1_i32_41 c4_i32_39
  let v61 : BitVec 32 := Scalar.remsi v58 v60
  let c0_i32_43 : BitVec 32 := 0#32
  let v63 : BitVec 1 := Scalar.cmpi .slt v61 c0_i32_43
  let c0_i32_44 : BitVec 32 := 0#32
  let v64 : BitVec 1 := Scalar.cmpi .slt v60 c0_i32_44
  let v65 : BitVec 1 := Scalar.xori v63 v64
  let c0_i32_42 : BitVec 32 := 0#32
  let v62 : BitVec 1 := Scalar.cmpi .ne v61 c0_i32_42
  let v66 : BitVec 1 := Scalar.andi v65 v62
  let v67 : BitVec 32 := Scalar.addi v61 v60
  let v68 : BitVec 32 := Scalar.select v66 v67 v61
  let c1_i32_52 : BitVec 32 := 1#32
  let v69 : BitVec 32 := Scalar.muli v68 c1_i32_52
  let v70 : BitVec 32 := Scalar.addi c0_i32_53 v69
  v70.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v79 : BitVec 32 := Scalar.addi v2 c1_i32_58
  let c4_i32_59 : BitVec 32 := 4#32
  let c0_i32_60 : BitVec 32 := 0#32
  let v80 : BitVec 1 := Scalar.cmpi .eq c4_i32_59 c0_i32_60
  let c1_i32_61 : BitVec 32 := 1#32
  let v81 : BitVec 32 := Scalar.select v80 c1_i32_61 c4_i32_59
  let v82 : BitVec 32 := Scalar.remsi v79 v81
  let c0_i32_63 : BitVec 32 := 0#32
  let v84 : BitVec 1 := Scalar.cmpi .slt v82 c0_i32_63
  let c0_i32_64 : BitVec 32 := 0#32
  let v85 : BitVec 1 := Scalar.cmpi .slt v81 c0_i32_64
  let v86 : BitVec 1 := Scalar.xori v84 v85
  let c0_i32_62 : BitVec 32 := 0#32
  let v83 : BitVec 1 := Scalar.cmpi .ne v82 c0_i32_62
  let v87 : BitVec 1 := Scalar.andi v86 v83
  let v88 : BitVec 32 := Scalar.addi v82 v81
  let v89 : BitVec 32 := Scalar.select v87 v88 v82
  let c1_i32_72 : BitVec 32 := 1#32
  let v90 : BitVec 32 := Scalar.muli v89 c1_i32_72
  let v91 : BitVec 32 := Scalar.addi c0_i32_73 v90
  v91.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_78 : BitVec 32 := 3#32
  let v100 : BitVec 32 := Scalar.addi v2 c3_i32_78
  let c4_i32_79 : BitVec 32 := 4#32
  let c0_i32_80 : BitVec 32 := 0#32
  let v101 : BitVec 1 := Scalar.cmpi .eq c4_i32_79 c0_i32_80
  let c1_i32_81 : BitVec 32 := 1#32
  let v102 : BitVec 32 := Scalar.select v101 c1_i32_81 c4_i32_79
  let v103 : BitVec 32 := Scalar.remsi v100 v102
  let c0_i32_83 : BitVec 32 := 0#32
  let v105 : BitVec 1 := Scalar.cmpi .slt v103 c0_i32_83
  let c0_i32_84 : BitVec 32 := 0#32
  let v106 : BitVec 1 := Scalar.cmpi .slt v102 c0_i32_84
  let v107 : BitVec 1 := Scalar.xori v105 v106
  let c0_i32_82 : BitVec 32 := 0#32
  let v104 : BitVec 1 := Scalar.cmpi .ne v103 c0_i32_82
  let v108 : BitVec 1 := Scalar.andi v107 v104
  let v109 : BitVec 32 := Scalar.addi v103 v102
  let v110 : BitVec 32 := Scalar.select v108 v109 v103
  let c1_i32_92 : BitVec 32 := 1#32
  let v111 : BitVec 32 := Scalar.muli v110 c1_i32_92
  let v112 : BitVec 32 := Scalar.addi c0_i32_93 v111
  v112.toNat
def k0_dev7 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_193 : BitVec 32 := 2#32
  let v189 : BitVec 32 := Scalar.addi v2 c2_i32_193
  let c4_i32_194 : BitVec 32 := 4#32
  let c0_i32_195 : BitVec 32 := 0#32
  let v190 : BitVec 1 := Scalar.cmpi .eq c4_i32_194 c0_i32_195
  let c1_i32_196 : BitVec 32 := 1#32
  let v191 : BitVec 32 := Scalar.select v190 c1_i32_196 c4_i32_194
  let v192 : BitVec 32 := Scalar.remsi v189 v191
  let c0_i32_198 : BitVec 32 := 0#32
  let v194 : BitVec 1 := Scalar.cmpi .slt v192 c0_i32_198
  let c0_i32_199 : BitVec 32 := 0#32
  let v195 : BitVec 1 := Scalar.cmpi .slt v191 c0_i32_199
  let v196 : BitVec 1 := Scalar.xori v194 v195
  let c0_i32_197 : BitVec 32 := 0#32
  let v193 : BitVec 1 := Scalar.cmpi .ne v192 c0_i32_197
  let v197 : BitVec 1 := Scalar.andi v196 v193
  let v198 : BitVec 32 := Scalar.addi v192 v191
  let v199 : BitVec 32 := Scalar.select v197 v198 v192
  let c1_i32_207 : BitVec 32 := 1#32
  let v200 : BitVec 32 := Scalar.muli v199 c1_i32_207
  let v201 : BitVec 32 := Scalar.addi c0_i32_208 v200
  v201.toNat
def k0_dev8 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_213 : BitVec 32 := 1#32
  let v210 : BitVec 32 := Scalar.addi v2 c1_i32_213
  let c4_i32_214 : BitVec 32 := 4#32
  let c0_i32_215 : BitVec 32 := 0#32
  let v211 : BitVec 1 := Scalar.cmpi .eq c4_i32_214 c0_i32_215
  let c1_i32_216 : BitVec 32 := 1#32
  let v212 : BitVec 32 := Scalar.select v211 c1_i32_216 c4_i32_214
  let v213 : BitVec 32 := Scalar.remsi v210 v212
  let c0_i32_218 : BitVec 32 := 0#32
  let v215 : BitVec 1 := Scalar.cmpi .slt v213 c0_i32_218
  let c0_i32_219 : BitVec 32 := 0#32
  let v216 : BitVec 1 := Scalar.cmpi .slt v212 c0_i32_219
  let v217 : BitVec 1 := Scalar.xori v215 v216
  let c0_i32_217 : BitVec 32 := 0#32
  let v214 : BitVec 1 := Scalar.cmpi .ne v213 c0_i32_217
  let v218 : BitVec 1 := Scalar.andi v217 v214
  let v219 : BitVec 32 := Scalar.addi v213 v212
  let v220 : BitVec 32 := Scalar.select v218 v219 v213
  let c1_i32_227 : BitVec 32 := 1#32
  let v221 : BitVec 32 := Scalar.muli v220 c1_i32_227
  let v222 : BitVec 32 := Scalar.addi c0_i32_228 v221
  v222.toNat
def k0_dev9 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_233 : BitVec 32 := 3#32
  let v231 : BitVec 32 := Scalar.addi v2 c3_i32_233
  let c4_i32_234 : BitVec 32 := 4#32
  let c0_i32_235 : BitVec 32 := 0#32
  let v232 : BitVec 1 := Scalar.cmpi .eq c4_i32_234 c0_i32_235
  let c1_i32_236 : BitVec 32 := 1#32
  let v233 : BitVec 32 := Scalar.select v232 c1_i32_236 c4_i32_234
  let v234 : BitVec 32 := Scalar.remsi v231 v233
  let c0_i32_238 : BitVec 32 := 0#32
  let v236 : BitVec 1 := Scalar.cmpi .slt v234 c0_i32_238
  let c0_i32_239 : BitVec 32 := 0#32
  let v237 : BitVec 1 := Scalar.cmpi .slt v233 c0_i32_239
  let v238 : BitVec 1 := Scalar.xori v236 v237
  let c0_i32_237 : BitVec 32 := 0#32
  let v235 : BitVec 1 := Scalar.cmpi .ne v234 c0_i32_237
  let v239 : BitVec 1 := Scalar.andi v238 v235
  let v240 : BitVec 32 := Scalar.addi v234 v233
  let v241 : BitVec 32 := Scalar.select v239 v240 v234
  let c1_i32_247 : BitVec 32 := 1#32
  let v242 : BitVec 32 := Scalar.muli v241 c1_i32_247
  let v243 : BitVec 32 := Scalar.addi c0_i32_248 v242
  v243.toNat
def k0_dev10 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_350 : BitVec 32 := 2#32
  let v320 : BitVec 32 := Scalar.addi v2 c2_i32_350
  let c4_i32_351 : BitVec 32 := 4#32
  let c0_i32_352 : BitVec 32 := 0#32
  let v321 : BitVec 1 := Scalar.cmpi .eq c4_i32_351 c0_i32_352
  let c1_i32_353 : BitVec 32 := 1#32
  let v322 : BitVec 32 := Scalar.select v321 c1_i32_353 c4_i32_351
  let v323 : BitVec 32 := Scalar.remsi v320 v322
  let c0_i32_355 : BitVec 32 := 0#32
  let v325 : BitVec 1 := Scalar.cmpi .slt v323 c0_i32_355
  let c0_i32_356 : BitVec 32 := 0#32
  let v326 : BitVec 1 := Scalar.cmpi .slt v322 c0_i32_356
  let v327 : BitVec 1 := Scalar.xori v325 v326
  let c0_i32_354 : BitVec 32 := 0#32
  let v324 : BitVec 1 := Scalar.cmpi .ne v323 c0_i32_354
  let v328 : BitVec 1 := Scalar.andi v327 v324
  let v329 : BitVec 32 := Scalar.addi v323 v322
  let v330 : BitVec 32 := Scalar.select v328 v329 v323
  let c1_i32_364 : BitVec 32 := 1#32
  let v331 : BitVec 32 := Scalar.muli v330 c1_i32_364
  let v332 : BitVec 32 := Scalar.addi c0_i32_365 v331
  v332.toNat
def k0_dev11 (d0 : Dev nD) : Nat :=
  let c0_i32_385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_370 : BitVec 32 := 1#32
  let v341 : BitVec 32 := Scalar.addi v2 c1_i32_370
  let c4_i32_371 : BitVec 32 := 4#32
  let c0_i32_372 : BitVec 32 := 0#32
  let v342 : BitVec 1 := Scalar.cmpi .eq c4_i32_371 c0_i32_372
  let c1_i32_373 : BitVec 32 := 1#32
  let v343 : BitVec 32 := Scalar.select v342 c1_i32_373 c4_i32_371
  let v344 : BitVec 32 := Scalar.remsi v341 v343
  let c0_i32_375 : BitVec 32 := 0#32
  let v346 : BitVec 1 := Scalar.cmpi .slt v344 c0_i32_375
  let c0_i32_376 : BitVec 32 := 0#32
  let v347 : BitVec 1 := Scalar.cmpi .slt v343 c0_i32_376
  let v348 : BitVec 1 := Scalar.xori v346 v347
  let c0_i32_374 : BitVec 32 := 0#32
  let v345 : BitVec 1 := Scalar.cmpi .ne v344 c0_i32_374
  let v349 : BitVec 1 := Scalar.andi v348 v345
  let v350 : BitVec 32 := Scalar.addi v344 v343
  let v351 : BitVec 32 := Scalar.select v349 v350 v344
  let c1_i32_384 : BitVec 32 := 1#32
  let v352 : BitVec 32 := Scalar.muli v351 c1_i32_384
  let v353 : BitVec 32 := Scalar.addi c0_i32_385 v352
  v353.toNat
def k0_dev12 (d0 : Dev nD) : Nat :=
  let c0_i32_405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_390 : BitVec 32 := 3#32
  let v362 : BitVec 32 := Scalar.addi v2 c3_i32_390
  let c4_i32_391 : BitVec 32 := 4#32
  let c0_i32_392 : BitVec 32 := 0#32
  let v363 : BitVec 1 := Scalar.cmpi .eq c4_i32_391 c0_i32_392
  let c1_i32_393 : BitVec 32 := 1#32
  let v364 : BitVec 32 := Scalar.select v363 c1_i32_393 c4_i32_391
  let v365 : BitVec 32 := Scalar.remsi v362 v364
  let c0_i32_395 : BitVec 32 := 0#32
  let v367 : BitVec 1 := Scalar.cmpi .slt v365 c0_i32_395
  let c0_i32_396 : BitVec 32 := 0#32
  let v368 : BitVec 1 := Scalar.cmpi .slt v364 c0_i32_396
  let v369 : BitVec 1 := Scalar.xori v367 v368
  let c0_i32_394 : BitVec 32 := 0#32
  let v366 : BitVec 1 := Scalar.cmpi .ne v365 c0_i32_394
  let v370 : BitVec 1 := Scalar.andi v369 v366
  let v371 : BitVec 32 := Scalar.addi v365 v364
  let v372 : BitVec 32 := Scalar.select v370 v371 v365
  let c1_i32_404 : BitVec 32 := 1#32
  let v373 : BitVec 32 := Scalar.muli v372 c1_i32_404
  let v374 : BitVec 32 := Scalar.addi c0_i32_405 v373
  v374.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c32_i32 : BitVec 32 := 32#32
  let v440 : BitVec 32 := Scalar.muli v2 c32_i32
  let v441 : Index := Scalar.indexCast v440
  let c0_499 : Index := 0#32
  ![v441.toNat, 0]
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x128 : Shape := ⟨2, ![128, 128]⟩
abbrev S128x1024 : Shape := ⟨2, ![128, 1024]⟩
abbrev S1024x128 : Shape := ⟨2, ![1024, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S128x128, .bf16⟩
  | .hbm, ⟨1, _⟩ => ⟨S128x1024, .bf16⟩
  | .hbm, ⟨2, _⟩ => ⟨S128x1024, .bf16⟩
  | .hbm, ⟨3, _⟩ => ⟨S128x1024, .bf16⟩
  | .hbm, ⟨4, _⟩ => ⟨S1024x128, .bf16⟩
  | .hbm, ⟨5, _⟩ => ⟨S1024x128, .bf16⟩
  | .hbm, ⟨6, _⟩ => ⟨S1024x128, .bf16⟩
  | .hbm, ⟨7, _⟩ => ⟨S128x1024, .f32⟩
  | .hbm, ⟨8, _⟩ => ⟨S128x1024, .bf16⟩
  | .hbm, ⟨9, _⟩ => ⟨S_, .bf16⟩
  | .hbm, ⟨10, _⟩ => ⟨S128x1024, .bf16⟩
  | .hbm, ⟨11, _⟩ => ⟨S128x1024, .bf16⟩
  | .hbm, ⟨12, _⟩ => ⟨S128x128, .f32⟩
  | .hbm, ⟨13, _⟩ => ⟨S128x128, .bf16⟩
  | .hbm, ⟨14, _⟩ => ⟨S128x1024, .f32⟩
  | .hbm, ⟨15, _⟩ => ⟨S128x1024, .bf16⟩
  | .hbm, ⟨16, _⟩ => ⟨S_, .bf16⟩
  | .hbm, ⟨17, _⟩ => ⟨S128x1024, .bf16⟩
  | .hbm, ⟨18, _⟩ => ⟨S128x1024, .bf16⟩
  | .hbm, ⟨19, _⟩ => ⟨S128x128, .f32⟩
  | .hbm, ⟨20, _⟩ => ⟨S128x128, .bf16⟩
  | .hbm, ⟨21, _⟩ => ⟨S128x1024, .f32⟩
  | .hbm, ⟨22, _⟩ => ⟨S128x1024, .bf16⟩
  | .hbm, ⟨23, _⟩ => ⟨S_, .bf16⟩
  | .hbm, ⟨24, _⟩ => ⟨S128x1024, .bf16⟩
  | .hbm, ⟨25, _⟩ => ⟨S128x1024, .bf16⟩
  | .hbm, ⟨26, _⟩ => ⟨S128x128, .f32⟩
  | .hbm, ⟨27, _⟩ => ⟨S128x128, .bf16⟩
  | .hbm, ⟨28, _⟩ => ⟨S128x128, .f32⟩
  | _, _ => ⟨S128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.KernelIdeal.Cells.lean ====
/-
# The ring, its buffers' slots and its semaphores

Four devices run the kernel together.  In each of the three layers a device sends its partial product
to the three others: to the device `j + 1` places ahead of it through slot `(layer, j)` of the
receiver's landing buffer.  This module names the devices ahead, the slots of the two scratch
buffers, and the nineteen semaphores of a device that the protocol runs on: the barrier semaphore, and for
every layer and every `j` one send and one receive semaphore.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The ring of devices -/

set_option backward.proofsInPublic true in
/-- The device `j + 1` places ahead of `c` on the ring of four. -/
def fwd (c : Dev nD) (j : Fin 3) : Dev nD := ⟨(c.val + j.val + 1) % 4, Nat.mod_lt _ (by decide)⟩

/-- Going `j + 1` ahead and then the remaining `4 - (j + 1)` comes back. -/
theorem fwd_rev (c : Dev nD) (j : Fin 3) : fwd (fwd c j) j.rev = c := by revert c j; decide
theorem rev_fwd (c : Dev nD) (j : Fin 3) : fwd (fwd c j.rev) j = c := by revert c j; decide
theorem fwd_injective (c : Dev nD) : Function.Injective (fwd c) := by revert c; decide

/-- One step around the ring by `j + 1` places, as a permutation of the devices. -/
def turn (j : Fin 3) : Dev nD ≃ Dev nD := ⟨fun c => fwd c j, fun c => fwd c j.rev, fun c => fwd_rev c j, fun c => rev_fwd c j⟩

theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 1 := by revert c; decide +kernel
theorem dev5_eq (c : Dev nD) : (⟨k0_dev5 c, k0_dev5_lt c⟩ : Dev nD) = fwd c 0 := by revert c; decide +kernel
theorem dev6_eq (c : Dev nD) : (⟨k0_dev6 c, k0_dev6_lt c⟩ : Dev nD) = fwd c 2 := by revert c; decide +kernel
theorem dev7_eq (c : Dev nD) : (⟨k0_dev7 c, k0_dev7_lt c⟩ : Dev nD) = fwd c 1 := by revert c; decide +kernel
theorem dev8_eq (c : Dev nD) : (⟨k0_dev8 c, k0_dev8_lt c⟩ : Dev nD) = fwd c 0 := by revert c; decide +kernel
theorem dev9_eq (c : Dev nD) : (⟨k0_dev9 c, k0_dev9_lt c⟩ : Dev nD) = fwd c 2 := by revert c; decide +kernel
theorem dev10_eq (c : Dev nD) : (⟨k0_dev10 c, k0_dev10_lt c⟩ : Dev nD) = fwd c 1 := by revert c; decide +kernel
theorem dev11_eq (c : Dev nD) : (⟨k0_dev11 c, k0_dev11_lt c⟩ : Dev nD) = fwd c 0 := by revert c; decide +kernel
theorem dev12_eq (c : Dev nD) : (⟨k0_dev12 c, k0_dev12_lt c⟩ : Dev nD) = fwd c 2 := by revert c; decide +kernel

/-! ## The slots of the two scratch buffers -/

/-- The buffer a device's partial products are sent from, one slot a layer. -/
abbrev stageM : Memref sig .tc .vmem S3x128x128 .bf16 := Memref.whole cc0_scratch0
/-- The buffer the others' partial products land in, three slots a layer. -/
abbrev commM : Memref sig .tc .vmem S3x3x128x128 .bf16 := Memref.whole cc0_scratch1
/-- The buffer the final total is kept in. -/
abbrev totalM : Memref sig .tc .vmem S128x128 .f32 := Memref.whole cc0_scratch2

theorem stage_inb (r : Fin 3) : ∀ a, (![r.val, 0, 0] : Fin 3 → Nat) a + S1x128x128.size a ≤ S3x128x128.size a := by
  revert r; decide
theorem comm_inb (r j : Fin 3) : ∀ a, (![r.val, j.val, 0, 0] : Fin 4 → Nat) a + S1x1x128x128.size a ≤ S3x3x128x128.size a := by
  revert r j; decide
theorem sem_inb (r j : Fin 3) : ∀ a, (![r.val, j.val] : Fin 2 → Nat) a + S1x1.size a ≤ S3x3.size a := by
  revert r j; decide

/-- Layer `r`'s rows of the staging buffer, as a rectangle of it. -/
abbrev stageR (r : Fin 3) : Rect S3x128x128 := Rect.unit (s := S3x128x128) ![r.val, 0, 0] S1x128x128.size (stage_inb r)
/-- Slot `(r, j)` of the landing buffer, as a rectangle of it. -/
abbrev commR (r j : Fin 3) : Rect S3x3x128x128 :=
  Rect.unit (s := S3x3x128x128) ![r.val, j.val, 0, 0] S1x1x128x128.size (comm_inb r j)

theorem stageR_words (r : Fin 3) : (stageR r).WholeWords (EltTy.packing .bf16) := by
  fin_cases r
  · exact wordsbf16_S3x128x128_S1x128x128_0_0_0
  · exact wordsbf16_S3x128x128_S1x128x128_1_0_0
  · exact wordsbf16_S3x128x128_S1x128x128_2_0_0
theorem stageR_packed (r : Fin 3) : (stageR r).PackedRows (EltTy.packing .bf16) := by
  fin_cases r
  · exact packedbf16_S3x128x128_S1x128x128_0_0_0
  · exact packedbf16_S3x128x128_S1x128x128_1_0_0
  · exact packedbf16_S3x128x128_S1x128x128_2_0_0
theorem commR_words (r j : Fin 3) : (commR r j).WholeWords (EltTy.packing .bf16) := by
  fin_cases r <;> fin_cases j
  · exact wordsbf16_S3x3x128x128_S1x1x128x128_0_0_0_0
  · exact wordsbf16_S3x3x128x128_S1x1x128x128_0_1_0_0
  · exact wordsbf16_S3x3x128x128_S1x1x128x128_0_2_0_0
  · exact wordsbf16_S3x3x128x128_S1x1x128x128_1_0_0_0
  · exact wordsbf16_S3x3x128x128_S1x1x128x128_1_1_0_0
  · exact wordsbf16_S3x3x128x128_S1x1x128x128_1_2_0_0
  · exact wordsbf16_S3x3x128x128_S1x1x128x128_2_0_0_0
  · exact wordsbf16_S3x3x128x128_S1x1x128x128_2_1_0_0
  · exact wordsbf16_S3x3x128x128_S1x1x128x128_2_2_0_0

/-- Layer `r`'s slot of the staging buffer, as the matrix it holds. -/
abbrev stageSlot (r : Fin 3) : Memref sig .tc .vmem S128x128 .bf16 :=
  (stageM.slice (stageR r) (fun _ => rfl)).squeeze S128x128 squeezes_S1x128x128_S128x128
/-- Slot `(r, j)` of the landing buffer, as the matrix it holds. -/
abbrev commSlot (r j : Fin 3) : Memref sig .tc .vmem S128x128 .bf16 :=
  (commM.slice (commR r j) (fun _ => rfl)).squeeze S128x128 squeezes_S1x1x128x128_S128x128

theorem stageSlot_words (r : Fin 3) : (stageSlot r).view.WordExact :=
  ((Memref.isWhole_whole cc0_scratch0).wordExact_slice rfl _ (stageR_words r)).reshape _ _
theorem commSlot_words (r j : Fin 3) : (commSlot r j).view.WordExact :=
  ((Memref.isWhole_whole cc0_scratch1).wordExact_slice rfl _ (commR_words r j)).reshape _ _

theorem stageSlot_set (r : Fin 3) : (stageSlot r).view.set = (stageM.view.slice (stageR r)).set := View.set_reshape _ _
theorem commSlot_set (r j : Fin 3) : (commSlot r j).view.set = (commM.view.slice (commR r j)).set := View.set_reshape _ _

/-- What a slot's transfer credits its semaphores with. -/
abbrev N : ℕ := (commSlot 0 0).view.dmaCredit
theorem N_pos : 0 < N := View.dmaCredit_pos _ (by decide)
theorem comm_credit (r j : Fin 3) : (commSlot r j).view.dmaCredit = N := rfl
theorem stage_credit (r : Fin 3) : (stageSlot r).view.dmaCredit = N := rfl

/-! ## The semaphores -/

/-- The semaphore the devices meet on before the first transfer. -/
abbrev barS : Sem sig := (SemArray.scalar (sig.barrier 0 rfl) : Sems sig S_).sem
/-- The semaphore that counts the transfer of slot `(r, j)` leaving its sender. -/
abbrev sendS (r j : Fin 3) : DmaSem sig :=
  ((cc0_scratch3.slice (Rect.unit (s := S3x3) ![r.val, j.val] S1x1.size (sem_inb r j))).squeeze S_ squeezes_S1x1_S_).sem
/-- The semaphore that counts the transfer of slot `(r, j)` arriving. -/
abbrev recvS (r j : Fin 3) : DmaSem sig :=
  ((cc0_scratch4.slice (Rect.unit (s := S3x3) ![r.val, j.val] S1x1.size (sem_inb r j))).squeeze S_ squeezes_S1x1_S_).sem

/-- The transfers' semaphores by name: which side (`false` the sender's, `true` the receiver's), the layer, the slot. -/
abbrev Lane : Type := Bool × Fin 3 × Fin 3
/-- All of a device's semaphores by name: the barrier's, or a transfer's. -/
abbrev Nm : Type := Option Lane

/-- The transfers' semaphores, which belong to the kernel alone; -/
abbrev osem : Lane → SemLoc sig := fun k => .dma (if k.1 then recvS k.2.1 k.2.2 else sendS k.2.1 k.2.2)
/-- all nineteen. -/
abbrev csem : Nm → SemLoc sig := fun
  | none => .reg barS
  | some k => osem k

abbrev cell (ck : Dev nD × Nm) : GSem nD τ sig := ((ck.1 : Thread nD τ), csem ck.2)
abbrev barCell (c : Dev nD) : GSem nD τ sig := ((c : Thread nD τ), .reg barS)
abbrev sendCell (c : Dev nD) (r j : Fin 3) : GSem nD τ sig := ((c : Thread nD τ), .dma (sendS r j))
abbrev recvCell (c : Dev nD) (r j : Fin 3) : GSem nD τ sig := ((c : Thread nD τ), .dma (recvS r j))

theorem sendS_val (r j : Fin 3) : (sendS r j).val = 8 + 3 * r.val + j.val := by revert r j; decide +kernel
theorem recvS_val (r j : Fin 3) : (recvS r j).val = 17 + 3 * r.val + j.val := by revert r j; decide +kernel

/-- The name of a semaphore, read off its place in its pool. -/
def nameOf : SemLoc sig → Option Nm
  | .reg s => if s = barS then some none else none
  | .dma q =>
    if q.val < 8 then none
    else if q.val < 17 then some (some (false, ⟨(q.val - 8) / 3 % 3, Nat.mod_lt _ (by decide)⟩, ⟨(q.val - 8) % 3, Nat.mod_lt _ (by decide)⟩))
    else some (some (true, ⟨(q.val - 17) / 3 % 3, Nat.mod_lt _ (by decide)⟩, ⟨(q.val - 17) % 3, Nat.mod_lt _ (by decide)⟩))

theorem nameOf_bar : nameOf (.reg barS) = some none := by dsimp only [nameOf]; exact if_pos rfl
theorem nameOf_send (r j : Fin 3) : nameOf (.dma (sendS r j)) = some (some (false, r, j)) := by
  have h := sendS_val r j
  dsimp only [nameOf]
  rw [if_neg (by omega), if_pos (by omega)]
  simp only [h, Option.some.injEq, Prod.mk.injEq, true_and, Fin.ext_iff]
  omega
theorem nameOf_recv (r j : Fin 3) : nameOf (.dma (recvS r j)) = some (some (true, r, j)) := by
  have h := recvS_val r j
  dsimp only [nameOf]
  rw [if_neg (by omega), if_neg (by omega)]
  simp only [h, Option.some.injEq, Prod.mk.injEq, true_and, Fin.ext_iff]
  omega
theorem nameOf_csem (k : Nm) : nameOf (csem k) = some k := by
  rcases k with _ | ⟨b, r, j⟩
  · exact nameOf_bar
  · cases b
    · exact nameOf_send r j
    · exact nameOf_recv r j

theorem csem_injective : Function.Injective csem := fun k k' h =>
  Option.some.inj ((nameOf_csem k).symm.trans ((congrArg nameOf h).trans (nameOf_csem k')))

theorem cell_injective : Function.Injective cell := by
  rintro ⟨c, k⟩ ⟨c', k'⟩ h
  have h1 : c = c' := congrArg (fun g : GSem nD τ sig => g.1.1) h
  have h2 : k = k' := csem_injective (congrArg Prod.snd h)
  rw [h1, h2]

end Cert.KernelIdeal.Mlp

end
-- ==== Proof.KernelIdeal.Schedule.lean ====
/-
# The protocol's schedule

Every semaphore is used for one round.

* A device's barrier semaphore is raised once by each of the three others and awaited for three.  The device
  `j + 1` ahead of `c` hands over, with its unit, its landing slots `(0, j)`, `(1, j)`, `(2, j)`: the ones that
  `c` writes.
* The receive semaphore `(r, j)` of a device is raised by the transfer of layer `r` from the device
  `(j + 1)` behind it, whose arrival hands over slot `(r, j)` holding that device's partial product.
* The send semaphore `(r, j)` of a device is raised by its own transfer, which gives back the share of
  the staging slot it was reading.

A device owes, from the start, three units to the others' barriers and nine arrivals; it waits on its barrier
before any arrival, and for the arrivals of a layer before it starts the next, so the order
barrier < layer 0 < layer 1 < layer 2 rules a cycle of waits out.
-/
module

public import proofs.«01_k».proof.Proof.KernelIdeal.Cells

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds beside the exchange's, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A 128×128 matrix as the transfers carry it. -/
abbrev Mat (F : FTy → Type) : Type := S128x128.Idx → Elt F .bf16

/-- What is sent: layer by layer, device by device. -/
abbrev Sent (F : FTy → Type) : Type := Fin 3 → Dev nD → Mat F

variable (P : Sent F)

/-! ## What the duties hand over -/

/-- Landing slot `(r, j)` of device `c`, at any contents; -/
def commAny (c : Dev nD) (r j : Fin 3) : sProp 𝕄 :=
  iprop(∃ X, owns (c : Thread nD τ) (commSlot r j) fullShare X)
/-- holding what the device `j + 1` behind `c` sends in layer `r`. -/
def commGot (c : Dev nD) (r j : Fin 3) : sProp 𝕄 :=
  owns (c : Thread nD τ) (commSlot r j) fullShare (P r (fwd c j.rev))

/-- The part of a staging slot's share each of its three transfers reads through. -/
def part (j : Fin 3) : PosShare TreeShare :=
  if j = 0 then fullShare.left else if j = 1 then fullShare.right.left else fullShare.right.right

/-- That part of device `c`'s staging slot `r`, holding what `c` sends in layer `r`. -/
def stagePart (c : Dev nD) (r j : Fin 3) : sProp 𝕄 :=
  owns (c : Thread nD τ) (stageSlot r) (part j) (P r c)
/-- The whole staging slot. -/
def stageFull (c : Dev nD) (r : Fin 3) : sProp 𝕄 :=
  owns (c : Thread nD τ) (stageSlot r) fullShare (P r c)

/-- What the device `j + 1` ahead of `c` hands `c` at the barrier. -/
def barPay (c : Dev nD) (j : Fin 3) : sProp 𝕄 :=
  iprop(commAny (F := F) (fwd c j) 0 j ∗ commAny (F := F) (fwd c j) 1 j ∗ commAny (F := F) (fwd c j) 2 j)

instance commAny_storable (c : Dev nD) (r j : Fin 3) : BI.Storable (upEmb : UEmb _ 𝕄) (commAny (F := F) c r j) := by
  unfold commAny; infer_instance
instance commGot_storable (c : Dev nD) (r j : Fin 3) : BI.Storable (upEmb : UEmb _ 𝕄) (commGot P c r j) := by
  unfold commGot; infer_instance
instance stagePart_storable (c : Dev nD) (r j : Fin 3) : BI.Storable (upEmb : UEmb _ 𝕄) (stagePart P c r j) := by
  unfold stagePart; infer_instance
instance barPay_storable (c : Dev nD) (j : Fin 3) : BI.Storable (upEmb : UEmb _ 𝕄) (barPay (F := F) c j) := by
  unfold barPay; infer_instance

omit [FloatOps F] in
/-- A staging slot is lent to its three transfers in parts, -/
theorem stage_lend (c : Dev nD) (r : Fin 3) :
    stageFull P c r ⊢ iprop(stagePart P c r 0 ∗ stagePart P c r 1 ∗ stagePart P c r 2) :=
  (ownsSat_thirds (c : Thread nD τ) (stageSlot r) fullShare (· = P r c)).1
omit [FloatOps F] in
/-- which come back to the whole. -/
theorem stage_join (c : Dev nD) (r : Fin 3) :
    iprop(stagePart P c r 0 ∗ stagePart P c r 1 ∗ stagePart P c r 2) ⊢ stageFull P c r :=
  (ownsSat_thirds (c : Thread nD τ) (stageSlot r) fullShare (· = P r c)).2

omit [FloatOps F] in
/-- A received slot is in particular a slot. -/
theorem commGot_any (c : Dev nD) (r j : Fin 3) : commGot P c r j ⊢ commAny c r j := by
  unfold commGot commAny; iintro H; iexists _; iexact H

/-! ## The schedule -/

/-- One round: three unit duties at a barrier, one duty of a slot's credit at a send or receive semaphore. -/
def sched : Rounds.Schedule (GSem nD τ sig) (Fin 3) 𝕄 where
  duties g r := if r = 0 ∧ g.1.2 = .tc then
      (match nameOf g.2 with | none => ∅ | some none => Finset.univ | some (some _) => {0})
    else ∅
  unitless _ := False
  amount g _ _ := match nameOf g.2 with | some none => 1 | _ => N
  payload g _ d := match nameOf g.2 with
    | none => iprop(emp)
    | some none => barPay g.1.1 d
    | some (some (false, r, j)) => stagePart P g.1.1 r j
    | some (some (true, r, j)) => commGot P g.1.1 r j
  amount_pos g _ _ _ := by
    split
    · exact Nat.one_pos
    · exact N_pos

instance sched_storable (g : GSem nD τ sig) (r : ℕ) (d : Fin 3) :
    BI.Storable (upEmb : UEmb _ 𝕄) ((sched P).payload g r d) := by
  dsimp only [sched]
  split <;> infer_instance

section Tables
variable (c : Dev nD) (r j : Fin 3)

omit [FloatOps F] in
theorem duties_bar : (sched P).duties (barCell c) 0 = Finset.univ := by
  dsimp only [sched]; rw [if_pos ⟨rfl, rfl⟩, nameOf_bar]
omit [FloatOps F] in
theorem duties_send : (sched P).duties (sendCell c r j) 0 = {0} := by
  dsimp only [sched]; rw [if_pos ⟨rfl, rfl⟩, nameOf_send]
omit [FloatOps F] in
theorem duties_recv : (sched P).duties (recvCell c r j) 0 = {0} := by
  dsimp only [sched]; rw [if_pos ⟨rfl, rfl⟩, nameOf_recv]
omit [FloatOps F] in
theorem duties_later (g : GSem nD τ sig) : ∀ k, 1 ≤ k → (sched P).duties g k = ∅ :=
  fun k hk => by dsimp only [sched]; rw [if_neg fun h => by omega]

omit [FloatOps F] in
theorem amount_bar (d : Fin 3) : (sched P).amount (barCell c) 0 d = 1 := by dsimp only [sched]; rw [nameOf_bar]
omit [FloatOps F] in
theorem amount_send (d : Fin 3) : (sched P).amount (sendCell c r j) 0 d = N := by dsimp only [sched]; rw [nameOf_send]
omit [FloatOps F] in
theorem amount_recv (d : Fin 3) : (sched P).amount (recvCell c r j) 0 d = N := by dsimp only [sched]; rw [nameOf_recv]

omit [FloatOps F] in
theorem expect_bar : (sched P).expect (barCell c) 0 = 3 := by
  unfold Schedule.expect Schedule.amountOf
  rw [duties_bar, Finset.sum_congr rfl fun d _ => amount_bar P c d]; rfl
omit [FloatOps F] in
theorem expect_send : (sched P).expect (sendCell c r j) 0 = N := by
  unfold Schedule.expect Schedule.amountOf; rw [duties_send, Finset.sum_singleton, amount_send]
omit [FloatOps F] in
theorem expect_recv : (sched P).expect (recvCell c r j) 0 = N := by
  unfold Schedule.expect Schedule.amountOf; rw [duties_recv, Finset.sum_singleton, amount_recv]

omit [FloatOps F] in
theorem payload_bar (d : Fin 3) : (sched P).payload (barCell c) 0 d = barPay c d := by dsimp only [sched]; rw [nameOf_bar]
omit [FloatOps F] in
theorem payload_send (d : Fin 3) : (sched P).payload (sendCell c r j) 0 d = stagePart P c r j := by
  dsimp only [sched]; rw [nameOf_send]
omit [FloatOps F] in
theorem payload_recv (d : Fin 3) : (sched P).payload (recvCell c r j) 0 d = commGot P c r j := by
  dsimp only [sched]; rw [nameOf_recv]

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- What a whole round hands over: at the barrier all the slots the device writes, -/
theorem round_bar : bigSep ((sched P).duties (barCell c) 0 \ ∅) (fun d => (sched P).payload (barCell c) 0 d)
    = iprop(barPay c 0 ∗ barPay c 1 ∗ barPay c 2) := by
  rw [Finset.sdiff_empty, duties_bar, bigSep_three, payload_bar, payload_bar, payload_bar]
omit [FloatOps F] in
/-- at a send semaphore the part of the staging slot lent, -/
theorem round_send : bigSep ((sched P).duties (sendCell c r j) 0 \ ∅) (fun d => (sched P).payload (sendCell c r j) 0 d)
    = stagePart P c r j := by
  rw [Finset.sdiff_empty, duties_send, bigSep_singleton, payload_send]
omit [FloatOps F] in
/-- at a receive semaphore the slot received. -/
theorem round_recv : bigSep ((sched P).duties (recvCell c r j) 0 \ ∅) (fun d => (sched P).payload (recvCell c r j) 0 d)
    = commGot P c r j := by
  rw [Finset.sdiff_empty, duties_recv, bigSep_singleton, payload_recv]

end Tables

/-! ## What is owed, and the order of the waits -/

/-- The arrival of layer `r` that device `c` owes the device `j + 1` ahead of it. -/
abbrev due (c : Dev nD) (r j : Fin 3) : CellTallies nD τ sig Unit := tallyAt (recvCell (fwd c j) r j) () N
/-- The unit device `c` owes the barrier of the device `j + 1` ahead of it. -/
abbrev dueBar (c : Dev nD) (j : Fin 3) : CellTallies nD τ sig Unit := tallyAt (barCell (fwd c j)) () 1

/-- What is owed with a whole layer's arrivals on top of `O`, in the order they are sent (the last summand first). -/
def withLayer (c : Dev nD) (r : Fin 3) (O : CellTallies nD τ sig Unit) : CellTallies nD τ sig Unit :=
  O + due c r 2 + due c r 0 + due c r 1

/-- What device `c` owes once its layers before the third, the second, the first are done; -/
def owed2 (c : Dev nD) : CellTallies nD τ sig Unit := withLayer c 2 0
def owed1 (c : Dev nD) : CellTallies nD τ sig Unit := withLayer c 1 (owed2 c)
def owed0 (c : Dev nD) : CellTallies nD τ sig Unit := withLayer c 0 (owed1 c)
/-- and at launch, the three barrier units besides. -/
def owedLaunch (c : Dev nD) : CellTallies nD τ sig Unit := owed0 c + dueBar c 2 + dueBar c 1 + dueBar c 0

def L (g : GSem nD τ sig) : Finset Unit := if g.1.2 = .tc then {()} else ∅
/-- A barrier's level is 1, layer `r`'s arrivals' `2 + r`, everything else's 0. -/
def lv (g : GSem nD τ sig) (_ : Unit) : ℕ := match nameOf g.2 with
  | some none => 1
  | some (some (true, r, _)) => 2 + r.val
  | _ => 0

theorem L_of_ne (g : GSem nD τ sig) (h : g.1.2 ≠ .tc) : L g = ∅ := if_neg h

theorem lv_bar (c : Dev nD) (u : Unit) : lv (barCell c) u = 1 := by unfold lv; rw [nameOf_bar]
theorem lv_recv (c : Dev nD) (r j : Fin 3) (u : Unit) : lv (recvCell c r j) u = 2 + r.val := by unfold lv; rw [nameOf_recv]
theorem lv_send (c : Dev nD) (r j : Fin 3) (u : Unit) : lv (sendCell c r j) u = 0 := by unfold lv; rw [nameOf_send]

/-- Everything owed in `O` lies at the devices' semaphores of level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} {g : GSem nD τ sig} {k : ℕ} (hg : g.1.2 = .tc) (h : ∀ u, n < lv g u) : Above n (tallyAt g () k) := fun g' u hp => by
  rw [tallyAt_apply] at hp
  by_cases he : g' = g ∧ u = ()
  · rw [he.1]; exact ⟨hg, h u⟩
  · rw [if_neg he] at hp; exact absurd hp (Nat.lt_irrefl 0)
theorem above_mono {n n' : ℕ} {O : CellTallies nD τ sig Unit} (hn : n' ≤ n) (h : Above n O) : Above n' O :=
  fun g u hg => ⟨(h g u hg).1, lt_of_le_of_lt hn (h g u hg).2⟩

theorem above_layer {n : ℕ} (c : Dev nD) (r : Fin 3) {O : CellTallies nD τ sig Unit} (hn : n < 2 + r.val) (h : Above n O) :
    Above n (withLayer c r O) := by
  have hd (j : Fin 3) : Above n (due c r j) := above_tally rfl fun u => by rw [lv_recv]; exact hn
  exact above_add (above_add (above_add h (hd 2)) (hd 0)) (hd 1)
theorem above_owed2 (c : Dev nD) : Above 3 (owed2 c) := above_layer c 2 (by decide) (above_zero _)
theorem above_owed1 (c : Dev nD) : Above 2 (owed1 c) := above_layer c 1 (by decide) (above_mono (by decide) (above_owed2 c))
theorem above_owed0 (c : Dev nD) : Above 1 (owed0 c) := above_layer c 0 (by decide) (above_mono (by decide) (above_owed1 c))
theorem above_launch (c : Dev nD) : Above 0 (owedLaunch c) := by
  have hd (j : Fin 3) : Above 0 (dueBar c j) := above_tally rfl fun u => by rw [lv_bar]; exact Nat.one_pos
  exact above_add (above_add (above_add (above_mono (by decide) (above_owed0 c)) (hd 2)) (hd 1)) (hd 0)

omit [FloatOps F] in
/-- A device may wait at a semaphore while everything it owes lies above that semaphore's level. -/
theorem mayWait {c : Dev nD} {sm : SemLoc sig} {n : ℕ} {O : CellTallies nD τ sig Unit}
    (hn : lv ((c : Thread nD τ), sm) () ≤ n) (hO : Above n O) :
    (levAts L lv : sProp 𝕄) ⊢ MayWait (c : Thread nD τ) sm () O :=
  MayOwe.of_cut (L := L) (lev := lv) n
    (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdeal.Mlp

end
-- ==== Proof.KernelIdeal.Program.lean ====
/-
# The body as a short program

The kernel's body, layer by layer: meet at the barrier; then three times store a partial product,
exchange it with the three other devices, and add up; at the end write this device's rows.
-/
module

public import proofs.«01_k».proof.Proof.KernelIdeal.Schedule

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A program of a device's core. -/
abbrev Pg (F : FTy → Type) (α : Type) : Type 1 := Prog (TpuEff nD τ sig (Elt F) Λ₀ .tc) α

/-- A slot of the landing buffer as a load returns it. -/
abbrev Landed (F : FTy → Type) : Type := S1x1x128x128.Idx → Elt F .bf16
/-- A staging slot as a store takes it. -/
abbrev Staged (F : FTy → Type) : Type := S1x128x128.Idx → Elt F .bf16

section Steps
variable {α : Type}

/-- Raise the barrier semaphore of device `n` by one. -/
def raise (n : Dev nD) (k : PUnit → Pg F α) : Pg F α := .op (.semSignal (n, .tc) barS (1#32).toInt) k
/-- Wait for three on one's own. -/
def meet (k : PUnit → Pg F α) : Pg F α := .op (.semWait barS (3#32).toInt) k

/-- Send layer `r`'s staging slot to slot `(r, j)` of device `n`. -/
def send (r j : Fin 3) (n : Dev nD) (k : PUnit → Pg F α) : Pg F α :=
  .op (.enqueueDma (stageSlot r) (.remote (Dev.tc n) (commSlot r j) (.dma (sendS r j))) (.dma (recvS r j))
    (stageSlot_words r) (commSlot_words r j) ⟨⟨rfl, Or.inl rfl⟩, trivial⟩) k
/-- Wait for slot `(r, j)` to have arrived; -/
def awaitRecv (r j : Fin 3) (k : PUnit → Pg F α) : Pg F α :=
  .op (.waitDma2 (recvS r j) (stageSlot r) (commSlot r j) (stageSlot_words r) (commSlot_words r j)) k
/-- for one's own transfer to have left. -/
def awaitSend (r j : Fin 3) (k : PUnit → Pg F α) : Pg F α :=
  .op (.waitDma2 (sendS r j) (commSlot r j) (stageSlot r) (commSlot_words r j) (stageSlot_words r)) k
/-- Load slot `(r, j)`. -/
def loadComm (r j : Fin 3) (k : Landed F → Pg F α) : Pg F α :=
  .op (.load commM (commR r j).toLoadRect (View.loadsAt_vmem h_S1x1x128x128)) k

/-- Store `w` to layer `r`'s staging slot (the program loads the slot first, and drops what it reads). -/
def publish (r : Fin 3) (w : Staged F) (k : PUnit → Pg F α) : Pg F α :=
  .op (.load stageM (stageR r).toLoadRect (View.loadsAt_vmem h_S1x128x128)) fun _ =>
    .op (.store stageM (stageR r) w Finset.univ
      (View.stores_vmem h_S1x128x128 ((Memref.isWhole_whole cc0_scratch0).storeExact_slice rfl _ (stageR_packed r)) (fun _ => rfl)) (.inl rfl)) k

/-- One layer's exchange: the three transfers to the devices `n₀`, `n₁`, `n₂` (one, two and three places ahead), the waits for the three
arrivals, their loads, and the waits for the transfers to have left. -/
def exchange (r : Fin 3) (n₀ n₁ n₂ : Dev nD) (k : Landed F → Landed F → Landed F → Pg F α) : Pg F α :=
  send r 1 n₁ fun _ => send r 0 n₀ fun _ => send r 2 n₂ fun _ =>
  awaitRecv r 1 fun _ => awaitRecv r 0 fun _ => awaitRecv r 2 fun _ =>
  loadComm r 0 fun v₀ => loadComm r 1 fun v₁ => loadComm r 2 fun v₂ =>
  awaitSend r 1 fun _ => awaitSend r 0 fun _ => awaitSend r 2 fun _ => k v₀ v₁ v₂

/-- Load a staged 128×128 operand; -/
def loadX (b : Memref sig .tc .vmem S128x128 .bf16) (k : (S128x128.Idx → Elt F .bf16) → Pg F α) : Pg F α :=
  .op (.load b (Rect.unit (s := S128x128) ![0, 0] S128x128.size inb_S128x128_S128x128_0_0).toLoadRect (View.loadsAt_vmem h_S128x128)) k
/-- an input weight; -/
def loadW (b : Memref sig .tc .vmem S128x256 .bf16) (k : (S128x256.Idx → Elt F .bf16) → Pg F α) : Pg F α :=
  .op (.load b (Rect.unit (s := S128x256) ![0, 0] S128x256.size inb_S128x256_S128x256_0_0).toLoadRect (View.loadsAt_vmem h_S128x256)) k
/-- an output weight. -/
def loadV (b : Memref sig .tc .vmem S256x128 .bf16) (k : (S256x128.Idx → Elt F .bf16) → Pg F α) : Pg F α :=
  .op (.load b (Rect.unit (s := S256x128) ![0, 0] S256x128.size inb_S256x128_S256x128_0_0).toLoadRect (View.loadsAt_vmem h_S256x128)) k

/-- Keep the total `w`, and write device `d`'s rows of it to the result's staging buffer (again each buffer is loaded before it is
stored to, and what is read dropped). -/
def finish (d : Dev nD) (w : S128x128.Idx → Elt F .f32) : Pg F PUnit :=
  .op (.load totalM (Rect.unit (s := S128x128) ![0, 0] S128x128.size inb_S128x128_S128x128_0_0).toLoadRect (View.loadsAt_vmem h_S128x128)) fun _ =>
  .op (.store totalM (Rect.unit (s := S128x128) ![0, 0] S128x128.size inb_S128x128_S128x128_0_0) w Finset.univ
    (View.stores_vmem_bits_univ h_S128x128 rfl) (.inl rfl)) fun _ =>
  .op (.load totalM (Rect.unit (s := S128x128) (k0_off1 d) S32x128.size (k0_off1_inb d)).toLoadRect (View.loadsAt_vmem h_S32x128)) fun v =>
  .op (.load (Memref.whole cc0_stg7_0) (Rect.unit (s := S32x128) ![0, 0] S32x128.size inb_S32x128_S32x128_0_0).toLoadRect
    (View.loadsAt_vmem h_S32x128)) fun _ =>
  .op (.store (Memref.whole cc0_stg7_0) (Rect.unit (s := S32x128) ![0, 0] S32x128.size inb_S32x128_S32x128_0_0) v Finset.univ
    (View.stores_vmem_bits_univ h_S32x128 rfl) (.inl rfl)) fun _ => .ret ⟨⟩

end Steps

/-- The whole body. -/
def bodyProg : Pg F PUnit :=
  .op .deviceId fun d =>
  raise ⟨k0_dev1 d, k0_dev1_lt d⟩ fun _ => raise ⟨k0_dev2 d, k0_dev2_lt d⟩ fun _ => raise ⟨k0_dev3 d, k0_dev3_lt d⟩ fun _ =>
  meet fun _ =>
  loadX (Memref.whole cc0_stg0_0) fun x => loadW (Memref.whole cc0_stg1_0) fun w₀ => loadV (Memref.whole cc0_stg2_0) fun v₀ =>
  publish 0 (k0_pay3 x w₀ v₀) fun _ =>
  exchange 0 ⟨k0_dev5 d, k0_dev5_lt d⟩ ⟨k0_dev4 d, k0_dev4_lt d⟩ ⟨k0_dev6 d, k0_dev6_lt d⟩ fun a₀ a₁ a₂ =>
  loadW (Memref.whole cc0_stg3_0) fun w₁ => loadV (Memref.whole cc0_stg4_0) fun v₁ =>
  publish 1 (k0_pay6 (k0_pay4 (k0_pay2 x w₀ v₀) a₀ a₁ a₂) w₁ v₁) fun _ =>
  exchange 1 ⟨k0_dev8 d, k0_dev8_lt d⟩ ⟨k0_dev7 d, k0_dev7_lt d⟩ ⟨k0_dev9 d, k0_dev9_lt d⟩ fun b₀ b₁ b₂ =>
  loadW (Memref.whole cc0_stg5_0) fun w₂ => loadV (Memref.whole cc0_stg6_0) fun v₂ =>
  publish 2 (k0_pay9 (k0_pay7 (k0_pay5 (k0_pay4 (k0_pay2 x w₀ v₀) a₀ a₁ a₂) w₁ v₁) b₀ b₁ b₂) w₂ v₂) fun _ =>
  exchange 2 ⟨k0_dev11 d, k0_dev11_lt d⟩ ⟨k0_dev10 d, k0_dev10_lt d⟩ ⟨k0_dev12 d, k0_dev12_lt d⟩ fun e₀ e₁ e₂ =>
  finish d (k0_pay1 (k0_pay10 (k0_pay8 (k0_pay7 (k0_pay5 (k0_pay4 (k0_pay2 x w₀ v₀) a₀ a₁ a₂) w₁ v₁) b₀ b₁ b₂) w₂ v₂) e₀ e₁ e₂))

set_option maxRecDepth 65536 in
set_option maxHeartbeats 4000000 in
/-- The printed body, at its staging and scratch buffers, is that program. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    stageM (Memref.isWhole_whole _) commM (Memref.isWhole_whole _) totalM (Memref.isWhole_whole _) cc0_scratch3 cc0_scratch4
      = bodyProg := by
  rw [cc0_body_eq_skeleton]
  rfl

end Cert.KernelIdeal.Mlp

end
-- ==== Proof.KernelIdeal.Steps.lean ====
/-
# The steps of the protocol

One rule for every step of the short program, in terms of what the device holds: what a step uses up, and what it
leaves.
-/
module

public import proofs.«01_k».proof.Proof.KernelIdeal.Program

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s core running `p`, to end with `Q`. -/
abbrev runs {α : Type} (c : Dev nD) (p : Pg F α) (Q : α → sProp 𝕄) : sProp 𝕄 :=
  wp frame (wpE (defs₀ (F := F)) 𝒱₀ (c : Thread nD τ) none) Set.univ p Q

/-- Device `c` owes `O`, whatever it has waited for. -/
def debt (c : Dev nD) (O : CellTallies nD τ sig Unit) : sProp 𝕄 := iprop(∃ W : Waits sig Unit, owes (c : Thread nD τ) O W)

variable (P : Sent F)

/-- The nineteen semaphores of every device are under the schedule, and in its round. -/
def records (K : Dev nD × Nm → ℕ) : sProp 𝕄 :=
  iprop((bigSep Finset.univ fun p => cellInv ER (sched P) (K p) (cell p)) ∗ bigSep Finset.univ fun p => reached ER (cell p) 0)

instance records_persistent (K : Dev nD × Nm → ℕ) : BI.Persistent (records P K) := by unfold records; infer_instance

omit [FloatOps F] in
/-- Each of them is. -/
theorem records_at (K : Dev nD × Nm → ℕ) (p : Dev nD × Nm) :
    records P K ⊢ iprop(cellInv ER (sched P) (K p) (cell p) ∗ reached ER (cell p) 0) :=
  BIClass.sep_mono (bigSep_elim (Finset.mem_univ p)) (bigSep_elim (Finset.mem_univ p))

variable (K : Dev nD × Nm → ℕ) {α : Type} {Q : α → sProp (MT nD τ sig Unit (Elt F) ℕ UU ℕ)} (c : Dev nD)

/-! ## The barrier -/

/-- Raising the barrier of the device `j + 1` ahead hands it the slots it writes. -/
theorem raise_spec (j : Fin 3) {n : Dev nD} (hn : n = fwd c j) {O₀ : CellTallies nD τ sig Unit} (O : CellTallies nD τ sig Unit)
    (hO : O₀ = O + dueBar c j) {k : PUnit → Pg F α} :
    iprop(records P K ∗ debt c O₀ ∗ dutyTok ER (barCell (fwd c j)) 0 j.rev
        ∗ (commAny (F := F) c 0 j.rev ∗ commAny (F := F) c 1 j.rev ∗ commAny (F := F) c 2 j.rev))
      ⊢ iprop((debt c O -∗ runs c (k ⟨⟩) Q) -∗ runs c (raise n k) Q) := by
  subst hn
  unfold debt raise
  iintro ⟨#HR, ⟨%W, HO⟩, Ht, Hs⟩ Hk
  ihave #HI := (records_at P K (fwd c j, none)) $$ HR
  icases HI with ⟨HI, Hr⟩
  iapply (Rounds.wp_signal 𝒱₀ ER (sched P) (c : Thread nD τ) none (dst := (fwd c j : Thread nD τ)) (κ := K (fwd c j, none))
      (d := j.rev) (by rw [duties_bar]; exact Finset.mem_univ _) ((amount_bar P (fwd c j) j.rev).trans (by decide)) () O hO)
    $$ [HO Ht Hs]
  · isplitr; · iexact HI
    isplitl [HO]; · iexact HO
    isplitl [Ht]; · iexact Ht
    isplitl [Hs]
    · rw [payload_bar]; unfold barPay; rw [fwd_rev]; iexact Hs
    iexact Hr
  iintro HO
  iapply Hk
  iexists W; iexact HO

/-- The wait at the barrier gives the slots the device writes, and closes its barrier semaphore. -/
theorem meet_spec {O : CellTallies nD τ sig Unit} (hO : Above 1 O) {k : PUnit → Pg F α} :
    iprop(records P K ∗ levAts L lv ∗ cred (tallyAt (barCell c) () 3) ∗ debt c O ∗ atPos ER (barCell c) 0 ∅ 0)
      ⊢ iprop(((debt c O ∗ semVal (barCell c) 0 ∗ barPay (F := F) c 0 ∗ barPay (F := F) c 1 ∗ barPay (F := F) c 2)
            -∗ runs c (k ⟨⟩) Q) -∗ runs c (meet k) Q) := by
  unfold debt meet
  iintro ⟨#HR, #HL, Hc, ⟨%W, HO⟩, Ha⟩ Hk
  ihave #HI := (records_at P K (c, none)) $$ HR
  icases HI with ⟨HI, Hr⟩
  iapply (Rounds.wp_wait_rest_token 𝒱₀ ER (sched P) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Ha]
  · isplitr; · iexact HI
    isplitl [Hc]; · iexact Hc
    isplitl [HO]; · iexact HO
    isplitr; · iapply (mayWait (c := c) (n := 1) (lv_bar c ()).le hO); iexact HL
    iexact Ha
  iintro ⟨HO, Ha, -, Hp⟩
  imod (Rounds.cell_close ER (sched P) (Set.mem_univ (K (c, none))) (fun h => h) (R := 0 + 1) (duties_later P (barCell c))) $$ [Ha] with Hz
  · isplitr; · iexact HI
    iexact Ha
  ihave Hp := (Entails.of_eq (round_bar P c)) $$ Hp
  iapply Hk
  isplitl [HO]; · iexists _; iexact HO
  isplitl [Hz]; · iexact Hz
  iexact Hp

/-! ## The transfers -/

theorem comm_amount (r j : Fin 3) : (commSlot r j).view.amount (.dma (recvS r j)) = N := comm_credit r j

set_option maxHeartbeats 1000000 in
/-- A transfer takes its part of the staging slot, and the receiver's slot at any contents. -/
theorem send_spec (r j : Fin 3) {n : Dev nD} (hn : n = fwd c j) {O₀ : CellTallies nD τ sig Unit} (O : CellTallies nD τ sig Unit)
    (hO : O₀ = O + due c r j) {k : PUnit → Pg F α} :
    iprop(records P K ∗ stagePart P c r j ∗ commAny (F := F) (fwd c j) r j ∗ debt c O₀
        ∗ dutyTok ER (sendCell c r j) 0 0 ∗ dutyTok ER (recvCell (fwd c j) r j) 0 0)
      ⊢ iprop(((cred (tallyAt (sendCell c r j) () N) ∗ debt c O) -∗ runs c (k ⟨⟩) Q) -∗ runs c (send r j n k) Q) := by
  subst hn
  unfold debt send stagePart commAny owns
  iintro ⟨#HR, ⟨%fs, %hfs, Hs⟩, ⟨%X, %fd, -, Hd⟩, ⟨%W, HO⟩, HtS, HtR⟩ Hk
  ihave #HIS := (records_at P K (c, some (false, r, j))) $$ HR
  icases HIS with ⟨HIS, HrS⟩
  ihave #HIR := (records_at P K (fwd c j, some (true, r, j))) $$ HR
  icases HIR with ⟨HIR, HrR⟩
  iapply (Rounds.wp_send_pointsTo 𝒱₀ ER (sched P) (c : Thread nD τ) none (κ₁ := K (c, some (false, r, j)))
      (κ₂ := K (fwd c j, some (true, r, j))) (r₁ := 0) (r₂ := 0) (d₁ := 0) (d₂ := 0) (fs := fs) (fd := fd)
      (by rw [duties_send]; exact Finset.mem_singleton_self _) (by rw [duties_recv]; exact Finset.mem_singleton_self _)
      () () N (comm_amount r j) (amount_send P c r j 0) (amount_recv P (fwd c j) r j 0) O hO (W := W)
      (by rw [payload_send]; unfold stagePart owns
          iintro H; iexists fs; isplitr; · ipureintro; exact hfs
          iexact H)
      (by rw [payload_recv]; unfold commGot owns; rw [fwd_rev]
          iintro H
          iexists ((commSlot r j).view.write (Elt F) fd ((stageSlot r).view.read (Elt F) fs) Finset.univ)
          isplitr
          · ipureintro; exact (View.read_write_univ fd _).trans hfs
          iexact H)) $$ [Hs Hd HO HtS HtR]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- The wait for an arrival gives the slot holding what was sent, and closes the receive semaphore. -/
theorem awaitRecv_spec (r j : Fin 3) {O : CellTallies nD τ sig Unit} (hO : Above (2 + r.val) O) {k : PUnit → Pg F α} :
    iprop(records P K ∗ levAts L lv ∗ cred (tallyAt (recvCell c r j) () N) ∗ debt c O ∗ atPos ER (recvCell c r j) 0 ∅ 0)
      ⊢ iprop(((debt c O ∗ semVal (recvCell c r j) 0 ∗ commGot P c r j) -∗ runs c (k ⟨⟩) Q) -∗ runs c (awaitRecv r j k) Q) := by
  unfold debt awaitRecv
  iintro ⟨#HR, #HL, Hc, ⟨%W, HO⟩, Ha⟩ Hk
  ihave #HI := (records_at P K (c, some (true, r, j))) $$ HR
  icases HI with ⟨HI, Hr⟩
  iapply (Rounds.wp_wait_rest_token 𝒱₀ ER (sched P) (c : Thread nD τ) none (κ := K (c, some (true, r, j)))
      (wpE_waitDma2_eq 𝒱₀ (c : Thread nD τ) none Set.univ) (Set.mem_univ _) () (O := O) (W := W) (R := 0) (m := 0) (T := ∅)
      (by rw [Nat.zero_add, expect_recv])) $$ [Hc HO Ha]
  · isplitr; · iexact HI
    isplitl [Hc]; · iexact Hc
    isplitl [HO]; · iexact HO
    isplitr; · iapply (mayWait (c := c) (n := 2 + r.val) (lv_recv c r j ()).le hO); iexact HL
    iexact Ha
  iintro ⟨HO, Ha, -, Hp⟩
  imod (Rounds.cell_close ER (sched P) (Set.mem_univ (K (c, some (true, r, j)))) (fun h => h) (R := 0 + 1) (duties_later P (recvCell c r j)))
    $$ [Ha] with Hz
  · isplitr; · iexact HI
    iexact Ha
  ihave Hp := (Entails.of_eq (round_recv P c r j)) $$ Hp
  iapply Hk
  isplitl [HO]; · iexists _; iexact HO
  isplitl [Hz]; · iexact Hz
  iexact Hp

/-- The wait for one's own transfer to leave gives the part of the staging slot back, and closes the send semaphore. -/
theorem awaitSend_spec (r j : Fin 3) {O : CellTallies nD τ sig Unit} (hO : Above 0 O) {k : PUnit → Pg F α} :
    iprop(records P K ∗ levAts L lv ∗ cred (tallyAt (sendCell c r j) () N) ∗ debt c O ∗ atPos ER (sendCell c r j) 0 ∅ 0)
      ⊢ iprop(((debt c O ∗ semVal (sendCell c r j) 0 ∗ stagePart P c r j) -∗ runs c (k ⟨⟩) Q) -∗ runs c (awaitSend r j k) Q) := by
  unfold debt awaitSend
  iintro ⟨#HR, #HL, Hc, ⟨%W, HO⟩, Ha⟩ Hk
  ihave #HI := (records_at P K (c, some (false, r, j))) $$ HR
  icases HI with ⟨HI, Hr⟩
  iapply (Rounds.wp_wait_rest_token 𝒱₀ ER (sched P) (c : Thread nD τ) none (κ := K (c, some (false, r, j)))
      (wpE_waitDma2_eq 𝒱₀ (c : Thread nD τ) none Set.univ) (Set.mem_univ _) () (O := O) (W := W) (R := 0) (m := 0) (T := ∅)
      (by rw [Nat.zero_add, expect_send])) $$ [Hc HO Ha]
  · isplitr; · iexact HI
    isplitl [Hc]; · iexact Hc
    isplitl [HO]; · iexact HO
    isplitr; · iapply (mayWait (c := c) (n := 0) (lv_send c r j ()).le hO); iexact HL
    iexact Ha
  iintro ⟨HO, Ha, -, Hp⟩
  imod (Rounds.cell_close ER (sched P) (Set.mem_univ (K (c, some (false, r, j)))) (fun h => h) (R := 0 + 1) (duties_later P (sendCell c r j)))
    $$ [Ha] with Hz
  · isplitr; · iexact HI
    iexact Ha
  ihave Hp := (Entails.of_eq (round_send P c r j)) $$ Hp
  iapply Hk
  isplitl [HO]; · iexists _; iexact HO
  isplitl [Hz]; · iexact Hz
  iexact Hp

/-! ## The slots' contents as loaded and stored -/

/-- What a load of a slot holding the matrix `X` returns. -/
def asLanded (X : Mat F) : Landed F := fun i => X ((Shape.reshapeEquiv (Shape.Squeezes.numel_eq squeezes_S1x1x128x128_S128x128)).symm i)
/-- The matrix a staging slot holds once `w` is stored to it. -/
def asMat (w : Staged F) : Mat F := fun i => w (Shape.reshapeEquiv (Shape.Squeezes.numel_eq squeezes_S1x128x128_S128x128) i)

/-- Loading a received slot. -/
theorem loadComm_spec (r j : Fin 3) {k : Landed F → Pg F α} :
    commGot P c r j ⊢ iprop((commGot P c r j -∗ runs c (k (asLanded (P r (fwd c j.rev)))) Q) -∗ runs c (loadComm r j k) Q) := by
  unfold commGot owns loadComm
  iintro ⟨%f, %hf, H⟩ Hk
  have hv : (commM.access (commR r j)).read (Elt F) f = asLanded (P r (fwd c j.rev)) := by
    funext i
    unfold asLanded
    rw [← hf]
    show _ = (commM.view.slice (commR r j)).read (Elt F) f (Shape.reshapeEquiv _ ((Shape.reshapeEquiv _).symm i))
    rw [Equiv.apply_symm_apply]
  iapply (wp_load_rect 𝒱₀ (c : Thread nD τ) none Set.univ (m := commM) (r := commR r j) (S := (commSlot r j).view.set) (f := f)
    (commSlot_set r j).ge) $$ H
  iintro H
  rw [hv]
  iapply Hk
  iexists f
  isplitr; · ipureintro; exact hf
  iexact H

/-- Storing the slot to be sent. -/
theorem publish_spec (r : Fin 3) (w : Staged F) (hw : asMat w = P r c) {k : PUnit → Pg F α} :
    iprop(∃ X, owns (c : Thread nD τ) (stageSlot r) fullShare X)
      ⊢ iprop((stageFull P c r -∗ runs c (k ⟨⟩) Q) -∗ runs c (publish r w k) Q) := by
  unfold stageFull owns publish
  iintro ⟨%X, %f, -, H⟩ Hk
  iapply (wp_load_rect 𝒱₀ (c : Thread nD τ) none Set.univ (m := stageM) (r := stageR r) (S := (stageSlot r).view.set) (f := f)
    (stageSlot_set r).ge) $$ H
  iintro H
  iapply (wp_store 𝒱₀ (c : Thread nD τ) none Set.univ (m := stageM) (r := stageR r) (Mk := Finset.univ) (S := (stageSlot r).view.set) (f := f)
    ((View.setOn_univ _).le.trans (stageSlot_set r).ge)) $$ H
  iintro H
  iapply Hk
  iexists _
  isplitr
  swap
  · iexact H
  ipureintro
  rw [← hw]
  funext i
  exact congrFun (View.read_write_univ (v := stageM.view.slice (stageR r)) f w) (Shape.reshapeEquiv _ i)

end Cert.KernelIdeal.Mlp

end
-- ==== Proof.KernelIdeal.Exchange.lean ====
/-
# One layer's exchange

A device that holds its partial product in the layer's staging slot, and the others' slots it writes, ends the exchange with
the three others' partial products in its own slots, and its staging slot back.
-/
module

public import proofs.«01_k».proof.Proof.KernelIdeal.Steps

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Sent F)

/-- What device `c` needs for its use of slot `j` in layer `r`, besides the slot: its place at the two semaphores it waits on, the right
to pay the two duties of its transfer, and the claim on the arrival owed to it. -/
def lane (c : Dev nD) (r j : Fin 3) : sProp 𝕄 :=
  iprop(atPos ER (sendCell c r j) 0 ∅ 0 ∗ atPos ER (recvCell c r j) 0 ∅ 0
    ∗ dutyTok ER (sendCell c r j) 0 0 ∗ dutyTok ER (recvCell (fwd c j) r j) 0 0 ∗ cred (tallyAt (recvCell c r j) () N))

/-- What is left of it: the two semaphores at zero, and the slot received. -/
def laneDone (c : Dev nD) (r j : Fin 3) : sProp 𝕄 :=
  iprop(semVal (sendCell c r j) 0 ∗ semVal (recvCell c r j) 0 ∗ commGot P c r j)

/-- The slots of the others that device `c` writes in layer `r`. -/
def theirs (c : Dev nD) (r : Fin 3) : sProp 𝕄 :=
  iprop(commAny (F := F) (fwd c 0) r 0 ∗ commAny (F := F) (fwd c 1) r 1 ∗ commAny (F := F) (fwd c 2) r 2)
def lanes (c : Dev nD) (r : Fin 3) : sProp 𝕄 := iprop(lane (F := F) c r 0 ∗ lane (F := F) c r 1 ∗ lane (F := F) c r 2)
def lanesDone (c : Dev nD) (r : Fin 3) : sProp 𝕄 := iprop(laneDone P c r 0 ∗ laneDone P c r 1 ∗ laneDone P c r 2)

variable (K : Dev nD × Nm → ℕ) {α : Type} {Q : α → sProp (MT nD τ sig Unit (Elt F) ℕ UU ℕ)} (c : Dev nD)

set_option maxHeartbeats 1000000 in
/-- One layer's exchange. -/
theorem exchange_spec (r : Fin 3) {n₀ n₁ n₂ : Dev nD} (h₀ : n₀ = fwd c 0) (h₁ : n₁ = fwd c 1) (h₂ : n₂ = fwd c 2)
    {O : CellTallies nD τ sig Unit} (hO : Above (2 + r.val) O) {k : Landed F → Landed F → Landed F → Pg F α} :
    iprop(records P K ∗ levAts L lv ∗ lanes (F := F) c r ∗ theirs (F := F) c r ∗ stageFull P c r ∗ debt c (withLayer c r O))
      ⊢ iprop(((lanesDone P c r ∗ stageFull P c r ∗ debt c O)
            -∗ runs c (k (asLanded (P r (fwd c (Fin.rev 0)))) (asLanded (P r (fwd c (Fin.rev 1)))) (asLanded (P r (fwd c (Fin.rev 2))))) Q)
          -∗ runs c (exchange r n₀ n₁ n₂ k) Q) := by
  have hO0 : Above 0 O := above_mono (Nat.zero_le _) hO
  unfold lanes theirs lanesDone lane laneDone exchange withLayer
  iintro ⟨#HR, #HL, ⟨⟨HaS0, HaR0, HtS0, HtR0, Hc0⟩, ⟨HaS1, HaR1, HtS1, HtR1, Hc1⟩, ⟨HaS2, HaR2, HtS2, HtR2, Hc2⟩⟩, ⟨Hd0, Hd1, Hd2⟩, Hst, HO⟩ Hk
  ihave Hst := (stage_lend P c r) $$ Hst
  icases Hst with ⟨Hs0, Hs1, Hs2⟩
  -- the three transfers
  iapply (send_spec P K c r 1 h₁ _ rfl) $$ [Hs1 Hd1 HO HtS1 HtR1]
  · isplitr; · iexact HR
    isplitl [Hs1]; · iexact Hs1
    isplitl [Hd1]; · iexact Hd1
    isplitl [HO]; · iexact HO
    isplitl [HtS1] <;> iassumption
  iintro ⟨He1, HO⟩
  iapply (send_spec P K c r 0 h₀ _ rfl) $$ [Hs0 Hd0 HO HtS0 HtR0]
  · isplitr; · iexact HR
    isplitl [Hs0]; · iexact Hs0
    isplitl [Hd0]; · iexact Hd0
    isplitl [HO]; · iexact HO
    isplitl [HtS0] <;> iassumption
  iintro ⟨He0, HO⟩
  iapply (send_spec P K c r 2 h₂ _ rfl) $$ [Hs2 Hd2 HO HtS2 HtR2]
  · isplitr; · iexact HR
    isplitl [Hs2]; · iexact Hs2
    isplitl [Hd2]; · iexact Hd2
    isplitl [HO]; · iexact HO
    isplitl [HtS2] <;> iassumption
  iintro ⟨He2, HO⟩
  -- the three arrivals
  iapply (awaitRecv_spec P K c r 1 hO) $$ [Hc1 HO HaR1]
  · isplitr; · iexact HR
    isplitr; · iexact HL
    isplitl [Hc1]; · iexact Hc1
    isplitl [HO] <;> iassumption
  iintro ⟨HO, HzR1, Hg1⟩
  iapply (awaitRecv_spec P K c r 0 hO) $$ [Hc0 HO HaR0]
  · isplitr; · iexact HR
    isplitr; · iexact HL
    isplitl [Hc0]; · iexact Hc0
    isplitl [HO] <;> iassumption
  iintro ⟨HO, HzR0, Hg0⟩
  iapply (awaitRecv_spec P K c r 2 hO) $$ [Hc2 HO HaR2]
  · isplitr; · iexact HR
    isplitr; · iexact HL
    isplitl [Hc2]; · iexact Hc2
    isplitl [HO] <;> iassumption
  iintro ⟨HO, HzR2, Hg2⟩
  -- their loads
  iapply (loadComm_spec P c r 0) $$ Hg0; iintro Hg0
  iapply (loadComm_spec P c r 1) $$ Hg1; iintro Hg1
  iapply (loadComm_spec P c r 2) $$ Hg2; iintro Hg2
  -- and the transfers gone
  iapply (awaitSend_spec P K c r 1 hO0) $$ [He1 HO HaS1]
  · isplitr; · iexact HR
    isplitr; · iexact HL
    isplitl [He1]; · iexact He1
    isplitl [HO] <;> iassumption
  iintro ⟨HO, HzS1, Hs1⟩
  iapply (awaitSend_spec P K c r 0 hO0) $$ [He0 HO HaS0]
  · isplitr; · iexact HR
    isplitr; · iexact HL
    isplitl [He0]; · iexact He0
    isplitl [HO] <;> iassumption
  iintro ⟨HO, HzS0, Hs0⟩
  iapply (awaitSend_spec P K c r 2 hO0) $$ [He2 HO HaS2]
  · isplitr; · iexact HR
    isplitr; · iexact HL
    isplitl [He2]; · iexact He2
    isplitl [HO] <;> iassumption
  iintro ⟨HO, HzS2, Hs2⟩
  iapply Hk
  isplitl [HzS0 HzR0 Hg0 HzS1 HzR1 Hg1 HzS2 HzR2 Hg2]
  · isplitl [HzS0 HzR0 Hg0]
    · isplitl [HzS0]; · iexact HzS0
      isplitl [HzR0] <;> iassumption
    isplitl [HzS1 HzR1 Hg1]
    · isplitl [HzS1]; · iexact HzS1
      isplitl [HzR1] <;> iassumption
    isplitl [HzS2]; · iexact HzS2
    isplitl [HzR2] <;> iassumption
  isplitl [Hs0 Hs1 Hs2]
  · iapply (stage_join P c r)
    isplitl [Hs0]; · iexact Hs0
    isplitl [Hs1] <;> iassumption
  iexact HO

end Cert.KernelIdeal.Mlp

end
-- ==== Proof.KernelIdeal.Values.lean ====
/-
# What the run computes

The contents of every buffer, as functions of the arguments as they are in memory before the run, in the kernel's own
arithmetic: three times each device forms its partial product from its total so far, and adds the three it is
sent.
-/
module

public import Idealize.ShloMosaic.Lib.Pipeline.Value
public import proofs.«01_k».proof.Proof.KernelIdeal.Exchange

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- The machine at the start: the memory `m`, every semaphore at zero. -/
abbrev s₀ : MemSt nD τ sig (Elt F) := ⟨m, fun _ => 0, ρ⟩

/-! ## The operands -/

/-- Device `c`'s copy of the activations, -/
def xIn (c : Dev nD) : S128x128.Idx → Elt F .bf16 := m ((c : Thread nD τ).loc main_arg0)
/-- and its blocks of the weights into and out of the hidden features of the three layers. -/
def winOf (c : Dev nD) : Fin 3 → S128x256.Idx → Elt F .bf16
  | 0 => m ((c : Thread nD τ).loc main_arg1)
  | 1 => m ((c : Thread nD τ).loc main_arg2)
  | 2 => m ((c : Thread nD τ).loc main_arg3)
def woutOf (c : Dev nD) : Fin 3 → S256x128.Idx → Elt F .bf16
  | 0 => m ((c : Thread nD τ).loc main_arg4)
  | 1 => m ((c : Thread nD τ).loc main_arg5)
  | 2 => m ((c : Thread nD τ).loc main_arg6)

/-! ## Layer by layer -/

/-- Layer 0: what device `c` sends, -/
def sent0 (c : Dev nD) : Mat F := asMat (k0_pay3 (xIn m c) (winOf m c 0) (woutOf m c 0))
/-- and its total once it has added what it is sent. -/
def tot0 (c : Dev nD) : FVec F S128x128 .f32 :=
  k0_pay4 (k0_pay2 (xIn m c) (winOf m c 0) (woutOf m c 0)) (asLanded (sent0 m (fwd c (Fin.rev 0)))) (asLanded (sent0 m (fwd c (Fin.rev 1))))
    (asLanded (sent0 m (fwd c (Fin.rev 2))))
/-- Layer 1. -/
def sent1 (c : Dev nD) : Mat F := asMat (k0_pay6 (tot0 m c) (winOf m c 1) (woutOf m c 1))
def tot1 (c : Dev nD) : FVec F S128x128 .f32 :=
  k0_pay7 (k0_pay5 (tot0 m c) (winOf m c 1) (woutOf m c 1)) (asLanded (sent1 m (fwd c (Fin.rev 0)))) (asLanded (sent1 m (fwd c (Fin.rev 1))))
    (asLanded (sent1 m (fwd c (Fin.rev 2))))
/-- Layer 2. -/
def sent2 (c : Dev nD) : Mat F := asMat (k0_pay9 (tot1 m c) (winOf m c 2) (woutOf m c 2))
def tot2 (c : Dev nD) : FVec F S128x128 .f32 :=
  k0_pay10 (k0_pay8 (tot1 m c) (winOf m c 2) (woutOf m c 2)) (asLanded (sent2 m (fwd c (Fin.rev 0)))) (asLanded (sent2 m (fwd c (Fin.rev 1))))
    (asLanded (sent2 m (fwd c (Fin.rev 2))))

/-- Everything the transfers carry. -/
def sent : Sent F
  | 0 => sent0 m
  | 1 => sent1 m
  | 2 => sent2 m

/-- The total as it is kept, -/
def kept (c : Dev nD) : S128x128.Idx → Elt F .f32 := k0_pay1 (tot2 m c)
/-- and the result of device `c`: its rows of the total. -/
def outOf (c : Dev nD) : S32x128.Idx → Elt F .f32 :=
  (totalM.access (Rect.unit (s := S128x128) (k0_off1 c) S32x128.size (k0_off1_inb c))).read (Elt F) (kept m c)

/-! ## Staging reads whole arrays -/

section Blocks
variable (c : Dev nD)

theorem blk_0 : (win0_0.blk (0 : Fin 1)).view.read (Elt F) (m ((c : Thread nD τ).loc main_arg0)) = xIn m c :=
  funext fun i => congrArg (m ((c : Thread nD τ).loc main_arg0)) (funext fun a => Fin.ext (Pipeline.Window.rect_emb_val_of_index_zero win0_0 (0 : Fin 1) a rfl i))
theorem blk_1 : (win0_1.blk (0 : Fin 1)).view.read (Elt F) (m ((c : Thread nD τ).loc main_arg1)) = winOf m c 0 :=
  funext fun i => congrArg (m ((c : Thread nD τ).loc main_arg1)) (funext fun a => Fin.ext (Pipeline.Window.rect_emb_val_of_index_zero win0_1 (0 : Fin 1) a rfl i))
theorem blk_2 : (win0_2.blk (0 : Fin 1)).view.read (Elt F) (m ((c : Thread nD τ).loc main_arg4)) = woutOf m c 0 :=
  funext fun i => congrArg (m ((c : Thread nD τ).loc main_arg4)) (funext fun a => Fin.ext (Pipeline.Window.rect_emb_val_of_index_zero win0_2 (0 : Fin 1) a rfl i))
theorem blk_3 : (win0_3.blk (0 : Fin 1)).view.read (Elt F) (m ((c : Thread nD τ).loc main_arg2)) = winOf m c 1 :=
  funext fun i => congrArg (m ((c : Thread nD τ).loc main_arg2)) (funext fun a => Fin.ext (Pipeline.Window.rect_emb_val_of_index_zero win0_3 (0 : Fin 1) a rfl i))
theorem blk_4 : (win0_4.blk (0 : Fin 1)).view.read (Elt F) (m ((c : Thread nD τ).loc main_arg5)) = woutOf m c 1 :=
  funext fun i => congrArg (m ((c : Thread nD τ).loc main_arg5)) (funext fun a => Fin.ext (Pipeline.Window.rect_emb_val_of_index_zero win0_4 (0 : Fin 1) a rfl i))
theorem blk_5 : (win0_5.blk (0 : Fin 1)).view.read (Elt F) (m ((c : Thread nD τ).loc main_arg3)) = winOf m c 2 :=
  funext fun i => congrArg (m ((c : Thread nD τ).loc main_arg3)) (funext fun a => Fin.ext (Pipeline.Window.rect_emb_val_of_index_zero win0_5 (0 : Fin 1) a rfl i))
theorem blk_6 : (win0_6.blk (0 : Fin 1)).view.read (Elt F) (m ((c : Thread nD τ).loc main_arg6)) = woutOf m c 2 :=
  funext fun i => congrArg (m ((c : Thread nD τ).loc main_arg6)) (funext fun a => Fin.ext (Pipeline.Window.rect_emb_val_of_index_zero win0_6 (0 : Fin 1) a rfl i))
end Blocks

end Cert.KernelIdeal.Mlp

end
-- ==== Proof.KernelIdeal.Body.lean ====
/-
# The body's run

What the pipeline hands a device's body, what the body leaves, and the proof that it does: the barrier, the three layers
and the last write, one after the other.
-/
module

public import proofs.«01_k».proof.Proof.KernelIdeal.Values
public import proofs.«01_k».proof.Proof.Gen.KernelIdeal.Points

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Before and after -/

/-- A column of device `c`'s landing slots: the ones the device `4 - (j + 1)` ahead of it writes. -/
def column (c : Dev nD) (j : Fin 3) : sProp 𝕄 :=
  iprop(commAny (F := F) c 0 j ∗ commAny (F := F) c 1 j ∗ commAny (F := F) c 2 j)
/-- A staging slot at any contents. -/
def stageAny (c : Dev nD) (r : Fin 3) : sProp 𝕄 := iprop(∃ X, owns (c : Thread nD τ) (stageSlot r) fullShare X)
/-- The total's buffer at any contents. -/
def totalAny (c : Dev nD) : sProp 𝕄 :=
  iprop(∃ f : Buf (Elt F) ((c : Thread nD τ).loc cc0_scratch2), ((c : Thread nD τ).loc cc0_scratch2) ↦{fullShare} f)
/-- The three scratch buffers. -/
def scratch (c : Dev nD) : sProp 𝕄 :=
  iprop((stageAny (F := F) c 0 ∗ stageAny (F := F) c 1 ∗ stageAny (F := F) c 2)
    ∗ (column (F := F) c 0 ∗ column (F := F) c 1 ∗ column (F := F) c 2) ∗ totalAny (F := F) c)

/-- A device's part of the protocol: its place at the barrier, its lanes, and the right to raise the three other barriers. -/
def linear (c : Dev nD) : sProp 𝕄 :=
  iprop(atPos ER (barCell c) 0 ∅ 0 ∗ (lanes (F := F) c 0 ∗ lanes (F := F) c 1 ∗ lanes (F := F) c 2)
    ∗ (dutyTok ER (barCell (fwd c 0)) 0 2 ∗ dutyTok ER (barCell (fwd c 1)) 0 1 ∗ dutyTok ER (barCell (fwd c 2)) 0 0))

section AnySent
variable (P : Sent F)

/-- What a device starts with besides its buffers. -/
def start (c : Dev nD) : sProp 𝕄 :=
  iprop((∃ K, records P K) ∗ linear (F := F) c ∗ cred (tallyAt (barCell c) () 3) ∗ levAts L lv)

def Φ₀ (c : Dev nD) : sProp 𝕄 := iprop(start P c ∗ scratch (F := F) c)
/-- What it ends with: every semaphore of its own at zero, and its scratch buffers. -/
def Φ₁ (c : Dev nD) : sProp 𝕄 :=
  iprop(semVal (barCell c) 0 ∗ (lanesDone P c 0 ∗ lanesDone P c 1 ∗ lanesDone P c 2)
    ∗ (stageFull P c 0 ∗ stageFull P c 1 ∗ stageFull P c 2) ∗ totalAny (F := F) c)

omit [FloatOps F] in
/-- The slots received at the barrier, which come device by device, layer by layer. -/
theorem theirs_of_barPay (c : Dev nD) : iprop(barPay (F := F) c 0 ∗ barPay (F := F) c 1 ∗ barPay (F := F) c 2)
    ⊢ iprop(theirs (F := F) c 0 ∗ theirs (F := F) c 1 ∗ theirs (F := F) c 2) := by
  unfold barPay theirs
  iintro ⟨⟨H00, H10, H20⟩, ⟨H01, H11, H21⟩, ⟨H02, H12, H22⟩⟩
  isplitl [H00 H01 H02]
  · isplitl [H00]; · iexact H00
    isplitl [H01] <;> iassumption
  isplitl [H10 H11 H12]
  · isplitl [H10]; · iexact H10
    isplitl [H11] <;> iassumption
  isplitl [H20]; · iexact H20
  isplitl [H21] <;> iassumption

variable (K : Dev nD × Nm → ℕ) {α : Type} {Q : α → sProp (MT nD τ sig Unit (Elt F) ℕ UU ℕ)} (c : Dev nD)

/-- The barrier as a whole: the device hands its landing slots out, and gets the slots it writes. -/
theorem barrier_spec {n₀ n₁ n₂ : Dev nD} (h₀ : n₀ = fwd c 0) (h₁ : n₁ = fwd c 1) (h₂ : n₂ = fwd c 2) {k : Pg F α} :
    iprop(records P K ∗ levAts L lv ∗ cred (tallyAt (barCell c) () 3) ∗ debt c (owedLaunch c) ∗ atPos ER (barCell c) 0 ∅ 0
        ∗ (dutyTok ER (barCell (fwd c 0)) 0 2 ∗ dutyTok ER (barCell (fwd c 1)) 0 1 ∗ dutyTok ER (barCell (fwd c 2)) 0 0)
        ∗ (column (F := F) c 0 ∗ column (F := F) c 1 ∗ column (F := F) c 2))
      ⊢ iprop(((debt c (owed0 c) ∗ semVal (barCell c) 0 ∗ (theirs (F := F) c 0 ∗ theirs (F := F) c 1 ∗ theirs (F := F) c 2))
            -∗ runs c k Q)
          -∗ runs c (raise n₀ fun _ => raise n₁ fun _ => raise n₂ fun _ => meet fun _ => k) Q) := by
  unfold column
  iintro ⟨#HR, #HL, Hc, HO, Ha, ⟨Ht0, Ht1, Ht2⟩, Hs0, Hs1, Hs2⟩ Hk
  iapply (raise_spec P K c 0 h₀ (owed0 c + dueBar c 2 + dueBar c 1) rfl) $$ [HO Ht0 Hs2]
  · isplitr; · iexact HR
    isplitl [HO]; · iexact HO
    isplitl [Ht0]; · iexact Ht0
    iexact Hs2
  iintro HO
  iapply (raise_spec P K c 1 h₁ (owed0 c + dueBar c 2) rfl) $$ [HO Ht1 Hs1]
  · isplitr; · iexact HR
    isplitl [HO]; · iexact HO
    isplitl [Ht1]; · iexact Ht1
    iexact Hs1
  iintro HO
  iapply (raise_spec P K c 2 h₂ (owed0 c) rfl) $$ [HO Ht2 Hs0]
  · isplitr; · iexact HR
    isplitl [HO]; · iexact HO
    isplitl [Ht2]; · iexact Ht2
    iexact Hs0
  iintro HO
  iapply (meet_spec P K c (above_owed0 c)) $$ [Hc HO Ha]
  · isplitr; · iexact HR
    isplitr; · iexact HL
    isplitl [Hc]; · iexact Hc
    isplitl [HO] <;> iassumption
  iintro ⟨HO, Hz, Hp⟩
  ihave Hp := (theirs_of_barPay (F := F) c) $$ Hp
  iapply Hk
  isplitl [HO]; · iexact HO
  isplitl [Hz] <;> iassumption

end AnySent

/-! ## Buffers read and written whole -/

omit [FloatOps F] in
theorem origin2 : (![0, 0] : Fin 2 → Nat) = fun _ => 0 := funext fun a => by fin_cases a <;> rfl

/-- A whole buffer of device `c` holding `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns; simp only [Memref.view_whole, View.read_whole, View.set_whole]

section Whole
variable {α : Type} {Q : α → sProp (MT nD τ sig Unit (Elt F) ℕ UU ℕ)} (c : Dev nD)

/-- Loading a whole buffer returns what it holds. -/
theorem load_whole {i : Fin (sig.nNear .tc .vmem)} {hi} {X : (⟨.vmem, i, hi⟩ : Ref sig .tc).ty.Contents (Elt F)}
    {off : Fin (⟨.vmem, i, hi⟩ : Ref sig .tc).ty.shape.rank → Nat} (hoff : off = fun _ => 0) {inb hl}
    {k : ((⟨.vmem, i, hi⟩ : Ref sig .tc).ty.shape.Idx → Elt F (⟨.vmem, i, hi⟩ : Ref sig .tc).ty.elt) → Pg F α} :
    holds c ⟨.vmem, i, hi⟩ X ⊢ iprop((holds c ⟨.vmem, i, hi⟩ X -∗ runs c (k X) Q)
      -∗ runs c (.op (.load (Memref.whole (⟨.vmem, i, hi⟩ : Ref sig .tc)) (Rect.unit off (⟨.vmem, i, hi⟩ : Ref sig .tc).ty.shape.size inb).toLoadRect hl) k) Q) := by
  unfold holds
  iintro ⟨%f, %hf, H⟩ Hk
  subst hf
  iapply (wp_load 𝒱₀ (c : Thread nD τ) none Set.univ (m := Memref.whole (⟨.vmem, i, hi⟩ : Ref sig .tc)) (Finset.subset_univ _)) $$ H; iintro H
  rw [Memref.readAt_unit_zero (Elt F) (⟨.vmem, i, hi⟩ : Ref sig .tc) hoff inb f]
  iapply Hk
  iexists f; isplitr; · (ipureintro; rfl)
  iexact H

/-- Storing to a whole buffer leaves what is stored. -/
theorem store_whole {i : Fin (sig.nNear .tc .vmem)} {hi} {X w : (⟨.vmem, i, hi⟩ : Ref sig .tc).ty.Contents (Elt F)}
    {off : Fin (⟨.vmem, i, hi⟩ : Ref sig .tc).ty.shape.rank → Nat} (hoff : off = fun _ => 0) {inb hx hm} {k : PUnit → Pg F α} :
    holds c ⟨.vmem, i, hi⟩ X ⊢ iprop((holds c ⟨.vmem, i, hi⟩ w -∗ runs c (k ⟨⟩) Q)
      -∗ runs c (.op (.store (Memref.whole (⟨.vmem, i, hi⟩ : Ref sig .tc)) (Rect.unit off (⟨.vmem, i, hi⟩ : Ref sig .tc).ty.shape.size inb)
          w Finset.univ hx hm) k) Q) := by
  unfold holds
  iintro ⟨%f, %hf, H⟩ Hk
  iapply (wp_store 𝒱₀ (c : Thread nD τ) none Set.univ (m := Memref.whole (⟨.vmem, i, hi⟩ : Ref sig .tc))
    (r := Rect.unit off (⟨.vmem, i, hi⟩ : Ref sig .tc).ty.shape.size inb) (Mk := Finset.univ) (Finset.subset_univ _)) $$ H; iintro H
  rw [Memref.write_access_unit_zero_univ (Elt F) (⟨.vmem, i, hi⟩ : Ref sig .tc) hoff inb f w]
  iapply Hk
  iexists w; isplitr; · (ipureintro; rfl)
  iexact H

/-- The last write: the total kept, and the device's rows of it in the result's staging buffer. -/
theorem finish_spec (w : S128x128.Idx → Elt F .f32) {X : (cc0_stg7_0 : Ref sig .tc).ty.Contents (Elt F)}
    {Q : PUnit → sProp (MT nD τ sig Unit (Elt F) ℕ UU ℕ)} :
    iprop(totalAny (F := F) c ∗ holds c cc0_stg7_0 X)
      ⊢ iprop(((totalAny (F := F) c ∗ holds c cc0_stg7_0
              ((totalM.access (Rect.unit (s := S128x128) (k0_off1 c) S32x128.size (k0_off1_inb c))).read (Elt F) w)) -∗ Q ⟨⟩)
          -∗ runs c (finish c w) Q) := by
  unfold totalAny finish
  iintro ⟨⟨%f, Ht⟩, Ho⟩ Hk
  iapply (load_whole (F := F) c (i := (cc0_scratch2 : Ref sig .tc).idx) (hi := (cc0_scratch2 : Ref sig .tc).names) (X := f) origin2) $$ [Ht]
  · iexists f; isplitr; · (ipureintro; rfl)
    iexact Ht
  iintro Ht
  iapply (store_whole (F := F) c (i := (cc0_scratch2 : Ref sig .tc).idx) (hi := (cc0_scratch2 : Ref sig .tc).names) (X := f) (w := w) origin2) $$ Ht
  unfold holds
  iintro ⟨%g, %hg, Ht⟩
  subst hg
  iapply (wp_load_rect 𝒱₀ (c : Thread nD τ) none Set.univ (m := totalM)
    (r := Rect.unit (s := S128x128) (k0_off1 c) S32x128.size (k0_off1_inb c)) (S := Finset.univ) (f := g) (Finset.subset_univ _)) $$ Ht
  iintro Ht
  iapply (load_whole (F := F) c (i := (cc0_stg7_0 : Ref sig .tc).idx) (hi := (cc0_stg7_0 : Ref sig .tc).names) (X := X) origin2) $$ Ho
  iintro Ho
  iapply (store_whole (F := F) c (i := (cc0_stg7_0 : Ref sig .tc).idx) (hi := (cc0_stg7_0 : Ref sig .tc).names) (X := X) origin2) $$ Ho
  iintro Ho
  unfold runs
  rw [wp_ret]; imodintro
  iapply Hk
  isplitl [Ht]
  · iexists g; iexact Ht
  iexact Ho

end Whole

/-! ## The run -/

section Run
variable (m : (ℓ : Loc nD τ sig) → Buf (Elt F) ℓ) (ρ : Dev nD → PrngReg)

/-- The staged operands of device `c`. -/
def operands (c : Dev nD) : sProp 𝕄 :=
  iprop(holds c cc0_stg0_0 (xIn m c) ∗ holds c cc0_stg1_0 (winOf m c 0) ∗ holds c cc0_stg2_0 (woutOf m c 0)
    ∗ holds c cc0_stg3_0 (winOf m c 1) ∗ holds c cc0_stg4_0 (woutOf m c 1) ∗ holds c cc0_stg5_0 (winOf m c 2)
    ∗ holds c cc0_stg6_0 (woutOf m c 2))

variable (c : Dev nD) {Q : PUnit → sProp (MT nD τ sig Unit (Elt F) ℕ UU ℕ)}

set_option maxHeartbeats 1000000 in
/-- The whole body. -/
theorem body_spec {X : (cc0_stg7_0 : Ref sig .tc).ty.Contents (Elt F)} :
    iprop(Φ₀ (sent m) c ∗ debt c (owedLaunch c) ∗ operands m c ∗ holds c cc0_stg7_0 X)
      ⊢ iprop(((Φ₁ (sent m) c ∗ debt c 0 ∗ operands m c ∗ holds c cc0_stg7_0 (outOf m c)) -∗ Q ⟨⟩) -∗ runs c (bodyProg (F := F)) Q) := by
  unfold Φ₀ Φ₁ start linear scratch operands bodyProg stageAny
  iintro ⟨⟨⟨⟨%K, #HR⟩, ⟨Ha, ⟨HL0, HL1, HL2⟩, Ht⟩, Hc, #HL⟩, ⟨Hg0, Hg1, Hg2⟩, Hcol, Htot⟩, HO, ⟨Hx, Hw0, Hv0, Hw1, Hv1, Hw2, Hv2⟩, Hout⟩ Hk
  unfold runs
  rw [wp_deviceId]
  -- the barrier
  iapply (barrier_spec (sent m) K c (dev1_eq c) (dev2_eq c) (dev3_eq c)) $$ [Hc HO Ha Ht Hcol]
  · isplitr; · iexact HR
    isplitr; · iexact HL
    isplitl [Hc]; · iexact Hc
    isplitl [HO]; · iexact HO
    isplitl [Ha]; · iexact Ha
    isplitl [Ht] <;> iassumption
  iintro ⟨HO, Hz, Hd0, Hd1, Hd2⟩
  -- layer 0
  unfold loadX loadW loadV
  iapply (load_whole (F := F) c (i := (cc0_stg0_0 : Ref sig .tc).idx) (hi := (cc0_stg0_0 : Ref sig .tc).names) origin2) $$ Hx; iintro Hx
  iapply (load_whole (F := F) c (i := (cc0_stg1_0 : Ref sig .tc).idx) (hi := (cc0_stg1_0 : Ref sig .tc).names) origin2) $$ Hw0; iintro Hw0
  iapply (load_whole (F := F) c (i := (cc0_stg2_0 : Ref sig .tc).idx) (hi := (cc0_stg2_0 : Ref sig .tc).names) origin2) $$ Hv0; iintro Hv0
  iapply (publish_spec (sent m) c 0 _ rfl) $$ Hg0; iintro Hg0
  iapply (exchange_spec (sent m) K c 0 (dev5_eq c) (dev4_eq c) (dev6_eq c) (above_owed1 c)) $$ [HL0 Hd0 Hg0 HO]
  · isplitr; · iexact HR
    isplitr; · iexact HL
    isplitl [HL0]; · iexact HL0
    isplitl [Hd0]; · iexact Hd0
    isplitl [Hg0]; · iexact Hg0
    iexact HO
  iintro ⟨HL0, Hg0, HO⟩
  -- layer 1
  iapply (load_whole (F := F) c (i := (cc0_stg3_0 : Ref sig .tc).idx) (hi := (cc0_stg3_0 : Ref sig .tc).names) origin2) $$ Hw1; iintro Hw1
  iapply (load_whole (F := F) c (i := (cc0_stg4_0 : Ref sig .tc).idx) (hi := (cc0_stg4_0 : Ref sig .tc).names) origin2) $$ Hv1; iintro Hv1
  iapply (publish_spec (sent m) c 1 _ rfl) $$ Hg1; iintro Hg1
  iapply (exchange_spec (sent m) K c 1 (dev8_eq c) (dev7_eq c) (dev9_eq c) (above_owed2 c)) $$ [HL1 Hd1 Hg1 HO]
  · isplitr; · iexact HR
    isplitr; · iexact HL
    isplitl [HL1]; · iexact HL1
    isplitl [Hd1]; · iexact Hd1
    isplitl [Hg1]; · iexact Hg1
    iexact HO
  iintro ⟨HL1, Hg1, HO⟩
  -- layer 2
  iapply (load_whole (F := F) c (i := (cc0_stg5_0 : Ref sig .tc).idx) (hi := (cc0_stg5_0 : Ref sig .tc).names) origin2) $$ Hw2; iintro Hw2
  iapply (load_whole (F := F) c (i := (cc0_stg6_0 : Ref sig .tc).idx) (hi := (cc0_stg6_0 : Ref sig .tc).names) origin2) $$ Hv2; iintro Hv2
  iapply (publish_spec (sent m) c 2 _ rfl) $$ Hg2; iintro Hg2
  iapply (exchange_spec (sent m) K c 2 (dev11_eq c) (dev10_eq c) (dev12_eq c) (above_zero _)) $$ [HL2 Hd2 Hg2 HO]
  · isplitr; · iexact HR
    isplitr; · iexact HL
    isplitl [HL2]; · iexact HL2
    isplitl [Hd2]; · iexact Hd2
    isplitl [Hg2]; · iexact Hg2
    iexact HO
  iintro ⟨HL2, Hg2, HO⟩
  -- the rows written out
  iapply (finish_spec (F := F) c (kept m c)) $$ [Htot Hout]
  · isplitl [Htot] <;> iassumption
  iintro ⟨Htot, Hout⟩
  iapply Hk
  isplitl [Hz HL0 HL1 HL2 Hg0 Hg1 Hg2 Htot]
  · isplitl [Hz]; · iexact Hz
    isplitl [HL0 HL1 HL2]
    · isplitl [HL0]; · iexact HL0
      isplitl [HL1] <;> iassumption
    isplitl [Hg0 Hg1 Hg2]
    · isplitl [Hg0]; · iexact Hg0
      isplitl [Hg1] <;> iassumption
    iexact Htot
  isplitl [HO]; · iexact HO
  isplitr [Hout]
  · isplitl [Hx]; · iexact Hx
    isplitl [Hw0]; · iexact Hw0
    isplitl [Hv0]; · iexact Hv0
    isplitl [Hw1]; · iexact Hw1
    isplitl [Hv1]; · iexact Hv1
    isplitl [Hw2] <;> iassumption
  iexact Hout

end Run

end Cert.KernelIdeal.Mlp

end
-- ==== Proof.KernelIdeal.Slots.lean ====
/-
# The scratch buffers and their slots

A scratch buffer is its slots: the staging buffer three, the landing buffer nine, in three columns.
-/
module

public import proofs.«01_k».proof.Proof.KernelIdeal.Body

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
theorem both_ways {A B : sProp 𝕄} (h : A ⊢ B) (h' : B ⊢ A) : A = B := BI.equiv_iff.mp ⟨h, h'⟩

/-! ## A buffer cut into parts -/

section Parts
variable {ℓ : Loc nD τ sig} {T : Type} [Fintype T] [DecidableEq T] (K : T → Finset (Idx ℓ))
  (hdisj : ∀ t t', t ≠ t' → Disjoint (K t) (K t')) (hcover : ∀ i, ∃ t, i ∈ K t)
include hdisj hcover

omit [FloatOps F] hdisj [DecidableEq T] in
theorem parts_univ [DecidableEq T] : Finset.univ.biUnion K = Finset.univ :=
  Finset.eq_univ_of_forall fun i => let ⟨t, ht⟩ := hcover i; Finset.mem_biUnion.mpr ⟨t, Finset.mem_univ t, ht⟩

omit [FloatOps F] in
/-- A whole buffer is cut into parts that cover it and do not meet, -/
theorem parts_split : (iprop(∃ f : Buf (Elt F) ℓ, ℓ ↦{fullShare} f) : sProp 𝕄)
    ⊢ bigSep Finset.univ fun t => iprop(∃ f : Buf (Elt F) ℓ, ℓ ↦[K t]{fullShare} f) := by
  iintro ⟨%f, H⟩
  ihave H := (Entails.of_eq (show (ℓ ↦{fullShare} f : sProp 𝕄) = bigSep Finset.univ fun t => ℓ ↦[K t]{fullShare} f by
    rw [← pointsTo_biUnion Finset.univ K fun t _ t' _ => hdisj t t', parts_univ K hcover])) $$ H
  have hm : (bigSep Finset.univ fun t => (ℓ ↦[K t]{fullShare} f : sProp 𝕄))
      ⊢ bigSep Finset.univ fun t => iprop(∃ f : Buf (Elt F) ℓ, ℓ ↦[K t]{fullShare} f) :=
    bigSep_mono fun t _ => show _ ⊢ iprop(∃ f : Buf (Elt F) ℓ, ℓ ↦[K t]{fullShare} f) by iintro H; iexists f; iexact H
  iapply hm $$ H

omit [FloatOps F] in
/-- and put together again. -/
theorem parts_join (f₀ : Buf (Elt F) ℓ) : (bigSep Finset.univ fun t => iprop(∃ f : Buf (Elt F) ℓ, ℓ ↦[K t]{fullShare} f) : sProp 𝕄)
    ⊢ iprop(∃ f : Buf (Elt F) ℓ, ℓ ↦{fullShare} f) := by
  haveI : Nonempty (Buf (Elt F) ℓ) := ⟨f₀⟩
  iintro H
  ihave H := (BI.bigSep_exists_pi Finset.univ (fun (t : T) (f : Buf (Elt F) ℓ) => (ℓ ↦[K t]{fullShare} f : sProp 𝕄))) $$ H
  icases H with ⟨%fs, H⟩
  ihave H := (pointsTo_biUnion_join Finset.univ K fs f₀ fun t _ t' _ => hdisj t t') $$ H
  icases H with ⟨%g, -, H⟩
  iexists g
  rw [parts_univ K hcover]
  iexact H

end Parts

/-! ## The two buffers' slots -/

theorem mem_stageSlot (r : Fin 3) (i : S3x128x128.Idx) : i ∈ (stageSlot r).view.set ↔ i 0 = r := by
  rw [stageSlot_set, View.set_slice_whole, Rect.mem_set_unit]
  constructor
  · intro h; have := h 0; apply Fin.ext; change r.val ≤ _ ∧ _ < r.val + 1 at this; omega
  · rintro rfl a
    have := (i a).isLt
    fin_cases a
    · exact ⟨le_rfl, Nat.lt_succ_self _⟩
    · exact ⟨Nat.zero_le _, this.trans_eq (Nat.zero_add _).symm⟩
    · exact ⟨Nat.zero_le _, this.trans_eq (Nat.zero_add _).symm⟩

theorem mem_commSlot (r j : Fin 3) (i : S3x3x128x128.Idx) : i ∈ (commSlot r j).view.set ↔ i 0 = r ∧ i 1 = j := by
  rw [commSlot_set, View.set_slice_whole, Rect.mem_set_unit]
  constructor
  · intro h
    have h0 := h 0; have h1 := h 1
    change r.val ≤ _ ∧ _ < r.val + 1 at h0; change j.val ≤ _ ∧ _ < j.val + 1 at h1
    exact ⟨Fin.ext (by omega), Fin.ext (by omega)⟩
  · rintro ⟨rfl, rfl⟩ a
    have := (i a).isLt
    fin_cases a
    · exact ⟨le_rfl, Nat.lt_succ_self _⟩
    · exact ⟨le_rfl, Nat.lt_succ_self _⟩
    · exact ⟨Nat.zero_le _, this.trans_eq (Nat.zero_add _).symm⟩
    · exact ⟨Nat.zero_le _, this.trans_eq (Nat.zero_add _).symm⟩

section Scratch
variable (c : Dev nD)

/-- Where device `c`'s staging and landing buffers lie. -/
abbrev stageL : Loc nD τ sig := (c : Thread nD τ).loc cc0_scratch0
abbrev commL : Loc nD τ sig := (c : Thread nD τ).loc cc0_scratch1

/-- The staging buffer's parts, -/
def stageParts (r : Fin 3) : Finset (Idx (stageL c)) := (stageSlot r).view.set
/-- the landing buffer's, column and row. -/
def commParts (p : Fin 3 × Fin 3) : Finset (Idx (commL c)) := (commSlot p.2 p.1).view.set

theorem stageParts_disjoint (r r' : Fin 3) (h : r ≠ r') : Disjoint (stageParts c r) (stageParts c r') :=
  Finset.disjoint_left.mpr fun i hi hi' => h (((mem_stageSlot r i).mp hi).symm.trans ((mem_stageSlot r' i).mp hi'))
theorem stageParts_cover (i : Idx (stageL c)) : ∃ r, i ∈ stageParts c r := ⟨_, (mem_stageSlot _ i).mpr rfl⟩
theorem commParts_disjoint (p p' : Fin 3 × Fin 3) (h : p ≠ p') : Disjoint (commParts c p) (commParts c p') :=
  Finset.disjoint_left.mpr fun i hi hi' => h (Prod.ext
    (((mem_commSlot _ _ i).mp hi).2.symm.trans ((mem_commSlot _ _ i).mp hi').2)
    (((mem_commSlot _ _ i).mp hi).1.symm.trans ((mem_commSlot _ _ i).mp hi').1))
theorem commParts_cover (i : Idx (commL c)) : ∃ p, i ∈ commParts c p := ⟨⟨_, _⟩, (mem_commSlot _ _ i).mpr ⟨rfl, rfl⟩⟩

omit [FloatOps F] in
theorem stageAny_eq (r : Fin 3) : stageAny (F := F) c r = iprop(∃ f : Buf (Elt F) (stageL c), stageL c ↦[stageParts c r]{fullShare} f) := by
  refine both_ways ?_ ?_
  · unfold stageAny owns
    iintro ⟨%X, %f, -, H⟩; iexists f; iexact H
  · unfold stageAny owns
    iintro ⟨%f, H⟩; iexists _; iexists f; isplitr; · (ipureintro; rfl)
    iexact H
omit [FloatOps F] in
theorem commAny_eq (r j : Fin 3) : commAny (F := F) c r j = iprop(∃ f : Buf (Elt F) (commL c), commL c ↦[commParts c (j, r)]{fullShare} f) := by
  refine both_ways ?_ ?_
  · unfold commAny owns
    iintro ⟨%X, %f, -, H⟩; iexists f; iexact H
  · unfold commAny owns
    iintro ⟨%f, H⟩; iexists _; iexists f; isplitr; · (ipureintro; rfl)
    iexact H

omit [FloatOps F] in
theorem columns_eq : (iprop(column (F := F) c 0 ∗ column (F := F) c 1 ∗ column (F := F) c 2) : sProp 𝕄)
    = bigSep Finset.univ fun p => iprop(∃ f : Buf (Elt F) (commL c), commL c ↦[commParts c p]{fullShare} f) := by
  rw [bigSep_univ_prod, bigSep_three]
  simp only [bigSep_three]
  unfold column
  simp only [commAny_eq]
omit [FloatOps F] in
theorem stages_eq : (iprop(stageAny (F := F) c 0 ∗ stageAny (F := F) c 1 ∗ stageAny (F := F) c 2) : sProp 𝕄)
    = bigSep Finset.univ fun r => iprop(∃ f : Buf (Elt F) (stageL c), stageL c ↦[stageParts c r]{fullShare} f) := by
  rw [bigSep_three]
  simp only [stageAny_eq]

omit [FloatOps F] in
/-- The three scratch buffers, slot by slot, -/
theorem scratch_split : (Pipeline.scopedRest (Ix := Unit) (Name := ℕ) (U := UU) (Lvl := ℕ) (Val := Elt F) spec0 c : sProp 𝕄) ⊢ scratch (F := F) c := by
  rw [scopedRest0_eq]
  unfold scratch totalAny
  rw [columns_eq, stages_eq]
  iintro ⟨Hs, Hc, Ht⟩
  isplitl [Hs]; · iapply (parts_split (stageParts c) (stageParts_disjoint c) (stageParts_cover c)) $$ Hs
  isplitl [Hc]; · iapply (parts_split (commParts c) (commParts_disjoint c) (commParts_cover c)) $$ Hc
  iexact Ht
/-- and back. -/
theorem scratch_join : scratch (F := F) c ⊢ (Pipeline.scopedRest (Ix := Unit) (Name := ℕ) (U := UU) (Lvl := ℕ) (Val := Elt F) spec0 c : sProp 𝕄) := by
  rw [scopedRest0_eq]
  unfold scratch totalAny
  rw [columns_eq, stages_eq]
  iintro ⟨Hs, Hc, Ht⟩
  isplitl [Hs]; · iapply (parts_join (stageParts c) (stageParts_disjoint c) (stageParts_cover c) (fun _ => Classical.arbitrary _)) $$ Hs
  isplitl [Hc]; · iapply (parts_join (commParts c) (commParts_disjoint c) (commParts_cover c) (fun _ => Classical.arbitrary _)) $$ Hc
  iexact Ht

end Scratch

end Cert.KernelIdeal.Mlp

end
-- ==== Proof.KernelIdeal.Dealing.lean ====
/-
# What the launch deals the devices

Every device's nineteen semaphores are put under the schedule, and each device gets its places, the right to pay the
duties it pays — most of them at other devices' semaphores —, and the claims on what it is owed.
-/
module

public import proofs.«01_k».proof.Proof.KernelIdeal.Slots

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A slot's layer and column. -/
abbrev Slot : Type := Fin 3 × Fin 3

/-! ## Conjunctions over the names -/

omit [FloatOps F] in
theorem bigSep_names (Φ : Nm → sProp 𝕄) : bigSep Finset.univ Φ
    = iprop(Φ none ∗ (bigSep Finset.univ fun k : Lane => Φ (some k))) := by
  rw [show (Finset.univ : Finset Nm) = insert none (Finset.univ.map Function.Embedding.some) from by decide,
    bigSep_insert (by decide), bigSep_map]
  rfl
omit [FloatOps F] in
theorem bigSep_lanes (Φ : Lane → sProp 𝕄) : bigSep Finset.univ Φ
    = iprop((bigSep Finset.univ fun p : Slot => Φ (false, p)) ∗ (bigSep Finset.univ fun p : Slot => Φ (true, p))) := by
  rw [bigSep_univ_prod]
  exact bigSep_univ_eq_bigSepL [false, true] (by decide) (by decide) _
omit [FloatOps F] in
theorem bigSep_slots (Φ : Slot → sProp 𝕄) : bigSep Finset.univ Φ
    = iprop((Φ (0, 0) ∗ Φ (0, 1) ∗ Φ (0, 2)) ∗ (Φ (1, 0) ∗ Φ (1, 1) ∗ Φ (1, 2)) ∗ (Φ (2, 0) ∗ Φ (2, 1) ∗ Φ (2, 2))) := by
  rw [bigSep_univ_prod, bigSep_three]
  simp only [bigSep_three]

/-! ## The cells and the rights dealt at first -/

/-- All the devices' semaphores, -/
def allCells : Finset (GSem nD τ sig) := Finset.univ.map ⟨cell, cell_injective⟩

/-- and for each of them three rights (a transfer's semaphores use one). -/
abbrev tokOf (x : (Dev nD × Nm) × Fin 3) : GSem nD τ sig × ℕ × Fin 3 := (cell x.1, 0, x.2)
theorem tokOf_injective : Function.Injective tokOf := fun x y h =>
  Prod.ext (cell_injective (congrArg (fun t : GSem nD τ sig × ℕ × Fin 3 => t.1) h)) (congrArg (fun t : GSem nD τ sig × ℕ × Fin 3 => t.2.2) h)
def allToks : Finset (GSem nD τ sig × ℕ × Fin 3) := Finset.univ.map ⟨tokOf, tokOf_injective⟩

/-- The rights at device `c`'s own semaphores: three at its barrier, one at each transfer's. -/
def ownToks (c : Dev nD) : sProp 𝕄 :=
  iprop((bigSep Finset.univ fun d : Fin 3 => dutyTok ER (barCell c) 0 d)
    ∗ (bigSep Finset.univ fun p : Slot => dutyTok ER (sendCell c p.1 p.2) 0 0)
    ∗ (bigSep Finset.univ fun p : Slot => dutyTok ER (recvCell c p.1 p.2) 0 0))
/-- The rights device `c` uses: at the others' barriers, its own send semaphores, the others' receive semaphores. -/
def payToks (c : Dev nD) : sProp 𝕄 :=
  iprop((bigSep Finset.univ fun j : Fin 3 => dutyTok ER (barCell (fwd c j)) 0 j.rev)
    ∗ (bigSep Finset.univ fun p : Slot => dutyTok ER (sendCell c p.1 p.2) 0 0)
    ∗ (bigSep Finset.univ fun p : Slot => dutyTok ER (recvCell (fwd c p.2) p.1 p.2) 0 0))

omit [FloatOps F] in
theorem toks_own (c : Dev nD) : (bigSep Finset.univ fun k : Nm => bigSep Finset.univ fun d : Fin 3 => (dutyTok ER (cell (c, k)) 0 d : sProp 𝕄))
    ⊢ ownToks (F := F) c := by
  rw [bigSep_names, bigSep_lanes]
  unfold ownToks
  exact BIClass.sep_mono (BI.Entails.refl _) (BIClass.sep_mono (bigSep_mono fun p _ => bigSep_elim (Finset.mem_univ (0 : Fin 3)))
    (bigSep_mono fun p _ => bigSep_elim (Finset.mem_univ (0 : Fin 3))))

omit [FloatOps F] in
/-- The rights go around the ring, each to the device that uses it. -/
theorem toks_around : (bigSep Finset.univ fun c : Dev nD => (ownToks (F := F) c : sProp 𝕄)) ⊢ bigSep Finset.univ fun c : Dev nD => payToks (F := F) c := by
  have hb : (bigSep Finset.univ fun c : Dev nD => bigSep Finset.univ fun d : Fin 3 => (dutyTok ER (barCell c) 0 d : sProp 𝕄))
      = bigSep Finset.univ fun c : Dev nD => bigSep Finset.univ fun j : Fin 3 => (dutyTok ER (barCell (fwd c j)) 0 j.rev : sProp 𝕄) := by
    rw [Pipeline.bigSep_univ_comm, Pipeline.bigSep_univ_comm (fun (c : Dev nD) (j : Fin 3) => (dutyTok ER (barCell (fwd c j)) 0 j.rev : sProp 𝕄)),
      bigSep_univ_equiv Fin.revPerm]
    exact bigSep_congr fun j _ => bigSep_univ_equiv (turn j) _
  have hr : (bigSep Finset.univ fun c : Dev nD => bigSep Finset.univ fun p : Slot => (dutyTok ER (recvCell c p.1 p.2) 0 0 : sProp 𝕄))
      = bigSep Finset.univ fun c : Dev nD => bigSep Finset.univ fun p : Slot => (dutyTok ER (recvCell (fwd c p.2) p.1 p.2) 0 0 : sProp 𝕄) := by
    rw [Pipeline.bigSep_univ_comm, Pipeline.bigSep_univ_comm (fun (c : Dev nD) (p : Slot) => (dutyTok ER (recvCell (fwd c p.2) p.1 p.2) 0 0 : sProp 𝕄))]
    exact bigSep_congr fun p _ => bigSep_univ_equiv (turn p.2) _
  unfold ownToks payToks
  rw [bigSep_sep', bigSep_sep', bigSep_sep', bigSep_sep', hb, hr]

/-! ## From the launch to every device's part -/

variable (P : Sent F)

/-- What device `c` is dealt at first. -/
def deal (c : Dev nD) : sProp 𝕄 :=
  iprop((bigSep Finset.univ fun k : Nm => roundState ER (sched P) (cell (c, k)) 0)
    ∗ (bigSep Finset.univ fun k : Nm => iprop(atPos ER (cell (c, k)) 0 ∅ 0 ∗ reached ER (cell (c, k)) 0)) ∗ ownToks (F := F) c)

/-- Its part of the protocol, but for the claims. -/
def places (c : Dev nD) : sProp 𝕄 :=
  iprop((bigSep Finset.univ fun k : Nm => atPos ER (cell (c, k)) 0 ∅ 0) ∗ payToks (F := F) c)

/-- What it has once every semaphore is under the schedule. -/
def dealt (c : Dev nD) : sProp 𝕄 := iprop(∃ K, records P K ∗ places (F := F) c)

omit [FloatOps F] in
theorem fund_deal : BI.own (ER (initOf allCells allToks)) ⊢ (|==> bigSep Finset.univ (deal P) : sProp 𝕄) := by
  have hX (Φ : GSem nD τ sig → sProp 𝕄) : bigSep allCells Φ = bigSep Finset.univ fun c : Dev nD => bigSep Finset.univ fun k : Nm => Φ (cell (c, k)) := by
    unfold allCells; rw [bigSep_map, bigSep_univ_prod]; rfl
  have hT : bigSep allToks (fun x => (dutyTok ER x.1 x.2.1 x.2.2 : sProp 𝕄)) ⊢ bigSep Finset.univ fun c : Dev nD => ownToks (F := F) c := by
    unfold allToks; rw [bigSep_map, bigSep_univ_prod, bigSep_univ_prod]
    exact bigSep_mono fun c _ => toks_own (F := F) c
  iintro HX
  imod (Rounds.fund ER (sched P) allCells allToks) $$ HX with ⟨Hst, Hr, Hat, Htok⟩
  imodintro
  ihave Hst := (Entails.of_eq (hX fun g => roundState ER (sched P) g 0)) $$ Hst
  ihave Hat := (Entails.of_eq (hX fun g => atPos ER g 0 ∅ 0)) $$ Hat
  ihave Hr := (Entails.of_eq (hX fun g => reached ER g 0)) $$ Hr
  ihave Htok := hT $$ Htok
  unfold deal; simp only [bigSep_sep']
  isplitl [Hst]; · iexact Hst
  isplitl [Hat Hr]
  · isplitl [Hat] <;> iassumption
  iexact Htok

omit [FloatOps F] in
/-- The barrier's semaphore is the one the kernel does not own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : Nm => semVal (cell (c, k)) 0 : sProp 𝕄) := by
  rw [unscopedSems0_eq, bigSep_names]; unfold Pipeline.ownSems0
  iintro ⟨HS, HB⟩
  isplitl [HB]; · iexact HB
  iexact HS

omit [FloatOps F] in
theorem put_under (c : Dev nD) :
    iprop(Pipeline.ownSems0 (Ix := Unit) (Name := ℕ) (U := UU) (Lvl := ℕ) (Val := Elt F) (τ := τ) osem c ∗ unscopedSems0 c ∗ deal P c)
      ⊢ |={Set.univ}=> iprop((bigSep Finset.univ fun k : Nm => iprop(∃ κ : ℕ, cellInv ER (sched P) κ (cell (c, k))))
          ∗ (bigSep Finset.univ fun k : Nm => iprop(atPos ER (cell (c, k)) 0 ∅ 0 ∗ reached ER (cell (c, k)) 0)) ∗ ownToks (F := F) c) := by
  unfold deal
  iintro ⟨Hos, Hus, Hst, Hat, Htok⟩
  ihave Hv := (sems_all (F := F) c) $$ [Hos Hus]
  · isplitl [Hos] <;> iassumption
  imod (show iprop((bigSep Finset.univ fun k : Nm => semVal (cell (c, k)) 0) ∗ bigSep Finset.univ fun k : Nm => roundState ER (sched P) (cell (c, k)) 0)
      ⊢ (|={Set.univ}=> bigSep Finset.univ fun k => iprop(∃ κ : ℕ, cellInv ER (sched P) κ (cell (c, k))) : sProp 𝕄) from by
        rw [← bigSep_sep']
        exact (bigSep_mono fun k _ => (Rounds.body_intro ER (sched P) (cell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
theorem regroup :
    (bigSep Finset.univ fun c : Dev nD => iprop((bigSep Finset.univ fun k : Nm => iprop(∃ κ : ℕ, cellInv ER (sched P) κ (cell (c, k))))
          ∗ (bigSep Finset.univ fun k : Nm => iprop(atPos ER (cell (c, k)) 0 ∅ 0 ∗ reached ER (cell (c, k)) 0)) ∗ ownToks (F := F) c) : sProp 𝕄)
      ⊢ bigSep Finset.univ (dealt P) := by
  rw [bigSep_sep', bigSep_sep', ← bigSep_univ_prod (fun ck : Dev nD × Nm => iprop(∃ κ : ℕ, cellInv ER (sched P) κ (cell ck))),
    bigSep_congr (s := Finset.univ) (fun (c : Dev nD) _ => bigSep_sep' Finset.univ (fun k : Nm => (atPos ER (cell (c, k)) 0 ∅ 0 : sProp 𝕄)) (fun k => reached ER (cell (c, k)) 0)),
    bigSep_sep', ← bigSep_univ_prod (fun ck : Dev nD × Nm => (reached ER (cell ck) 0 : sProp 𝕄))]
  iintro ⟨HI, ⟨Hat, #HR⟩, Htok⟩
  ihave HK := (BI.bigSep_exists_pi Finset.univ (fun (ck : Dev nD × Nm) (κ : ℕ) => (cellInv ER (sched P) κ (cell ck) : sProp 𝕄))) $$ HI
  icases HK with ⟨%K, #HI⟩
  ihave Htok := (toks_around (F := F)) $$ Htok
  have hshare : iprop(records P K ∗ bigSep Finset.univ fun c : Dev nD => places (F := F) c) ⊢ bigSep Finset.univ (dealt P) :=
    (sep_mono_left (BI.bigSep_of_persistent Finset.univ (records P K))).trans (by
      rw [← bigSep_sep']
      exact bigSep_mono fun c _ => show _ ⊢ dealt P c by unfold dealt; iintro H; iexists K; iexact H)
  iapply hshare
  isplitr
  · unfold records; isplitl; · iexact HI
    iexact HR
  · unfold places; rw [bigSep_sep']
    isplitl [Hat] <;> iassumption

omit [FloatOps F] in
/-- All the devices' semaphores are put under the schedule at once. -/
theorem deal_all : (bigSep Finset.univ fun c => iprop(Pipeline.ownSems0 (Ix := Unit) (Name := ℕ) (U := UU) (Lvl := ℕ) (Val := Elt F) (τ := τ) osem c
      ∗ unscopedSems0 c ∗ deal P c) : sProp 𝕄) ⊢ |={Set.univ}=> bigSep Finset.univ (dealt P) :=
  ((bigSep_mono fun c _ => put_under P c).trans (bigSep_fupd _ _)).trans (BI.fupd_mono (regroup P))

end Cert.KernelIdeal.Mlp

end
-- ==== Proof.KernelIdeal.Claims.lean ====
/-
# What every device is owed

Together the devices owe each barrier three units, and each receive semaphore one transfer: the claims a device
starts with.
-/
module

public import proofs.«01_k».proof.Proof.KernelIdeal.Dealing

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem barCell_eq_iff {a b : Dev nD} : barCell a = barCell b ↔ a = b :=
  ⟨fun h => congrArg (fun g : GSem nD τ sig => g.1.1) h, fun h => h ▸ rfl⟩
theorem recvCell_eq_iff {a b : Dev nD} {r j r' j' : Fin 3} : recvCell a r j = recvCell b r' j' ↔ a = b ∧ r = r' ∧ j = j' := by
  constructor
  · intro h
    have := cell_injective (show cell (a, some (true, r, j)) = cell (b, some (true, r', j')) from h)
    simpa using this
  · rintro ⟨rfl, rfl, rfl⟩; rfl
theorem recvCell_ne_bar {a b : Dev nD} {r j : Fin 3} : recvCell a r j ≠ barCell b := fun h => by
  have := cell_injective (show cell (a, some (true, r, j)) = cell (b, none) from h)
  simp at this

theorem due_bar (d c : Dev nD) (r j : Fin 3) : due d r j (barCell c) () = 0 := by
  rw [tallyAt_apply, if_neg fun h => recvCell_ne_bar h.1.symm]
theorem dueBar_bar (d c : Dev nD) (j : Fin 3) : dueBar d j (barCell c) () = if c = fwd d j then 1 else 0 := by
  rw [tallyAt_apply]; simp only [barCell_eq_iff, and_true]
theorem dueBar_recv (d c : Dev nD) (j r' j' : Fin 3) : dueBar d j (recvCell c r' j') () = 0 := by
  rw [tallyAt_apply, if_neg fun h => recvCell_ne_bar h.1]
theorem due_recv (d c : Dev nD) (r j r' j' : Fin 3) : due d r j (recvCell c r' j') () = if r = r' ∧ j = j' ∧ c = fwd d j then N else 0 := by
  rw [tallyAt_apply]
  refine if_congr ?_ rfl rfl
  rw [recvCell_eq_iff]
  exact ⟨fun h => ⟨h.1.2.1.symm, h.1.2.2.symm, h.1.1⟩, fun h => ⟨⟨h.2.2, h.1.symm, h.2.1.symm⟩, rfl⟩⟩

theorem layer_bar (d c : Dev nD) (r : Fin 3) (O : CellTallies nD τ sig Unit) : withLayer d r O (barCell c) () = O (barCell c) () := by
  show O (barCell c) () + due d r 2 (barCell c) () + due d r 0 (barCell c) () + due d r 1 (barCell c) () = _
  rw [due_bar d c r 2, due_bar d c r 0, due_bar d c r 1]; rfl
theorem layer_recv (d c : Dev nD) (r r' j : Fin 3) (O : CellTallies nD τ sig Unit) :
    withLayer d r' O (recvCell c r j) () = O (recvCell c r j) () + if r' = r ∧ c = fwd d j then N else 0 := by
  show O (recvCell c r j) () + due d r' 2 (recvCell c r j) () + due d r' 0 (recvCell c r j) () + due d r' 1 (recvCell c r j) () = _
  rw [due_recv d c r' 2, due_recv d c r' 0, due_recv d c r' 1]
  fin_cases j <;> simp

/-- What device `d` owes device `c`'s barrier, -/
theorem owed_bar (d c : Dev nD) : owedLaunch d (barCell c) ()
    = (if c = fwd d 2 then 1 else 0) + (if c = fwd d 1 then 1 else 0) + (if c = fwd d 0 then 1 else 0) := by
  show owed0 d (barCell c) () + dueBar d 2 (barCell c) () + dueBar d 1 (barCell c) () + dueBar d 0 (barCell c) () = _
  unfold owed0 owed1 owed2
  rw [layer_bar, layer_bar, layer_bar, dueBar_bar, dueBar_bar, dueBar_bar]
  simp only [Pi.zero_apply, Finsupp.zero_apply, Nat.zero_add]
/-- and its receive semaphore `(r, j)`. -/
theorem owed_recv (d c : Dev nD) (r j : Fin 3) : owedLaunch d (recvCell c r j) () = if c = fwd d j then N else 0 := by
  show owed0 d (recvCell c r j) () + dueBar d 2 (recvCell c r j) () + dueBar d 1 (recvCell c r j) () + dueBar d 0 (recvCell c r j) () = _
  unfold owed0 owed1 owed2
  rw [layer_recv, layer_recv, layer_recv, dueBar_recv, dueBar_recv, dueBar_recv]
  simp only [Pi.zero_apply, Finsupp.zero_apply, Nat.zero_add, Nat.add_zero]
  fin_cases r <;> simp

/-- Of all the devices exactly one is `j + 1` behind `c`. -/
theorem sum_behind (c : Dev nD) (j : Fin 3) (n : ℕ) : (∑ d : Dev nD, if c = fwd d j then n else 0) = n := by
  rw [Finset.sum_congr rfl fun d _ => if_congr (show c = fwd d j ↔ d = fwd c j.rev from
    ⟨fun h => by rw [h, fwd_rev], fun h => by rw [h, rev_fwd]⟩) rfl rfl, Finset.sum_ite_eq' Finset.univ (fwd c j.rev) fun _ => n,
    if_pos (Finset.mem_univ _)]

theorem credit_bar (c : Dev nD) : tallyOn (barCell c) (launchCredit (Pipeline.owing owedLaunch) 0 (barCell c))
    = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, sum_behind, sum_behind, sum_behind]
theorem credit_recv (c : Dev nD) (r j : Fin 3) : tallyOn (recvCell c r j) (launchCredit (Pipeline.owing owedLaunch) 0 (recvCell c r j))
    = (tallyAt (recvCell c r j) () N : CellTallies nD τ sig Unit) := by
  unfold tallyAt; refine congrArg _ (Finsupp.ext fun u => ?_); cases u
  rw [Pipeline.launchCredit_owing, Finsupp.single_eq_same, Finset.sum_congr rfl fun d _ => owed_recv d c r j, sum_behind]

omit [FloatOps F] in
/-- The claims device `c` starts with. -/
theorem claims (c : Dev nD) : (Pipeline.launchCred owedLaunch c : sProp 𝕄)
    ⊢ iprop(cred (tallyAt (barCell c) () 3) ∗ bigSep Finset.univ fun p : Slot => cred (tallyAt (recvCell c p.1 p.2) () N)) := by
  unfold Pipeline.launchCred
  have hs : (bigSep Finset.univ fun sm : SemLoc sig =>
        (cred (tallyOn ((c.tc : Thread nD τ), sm) (launchCredit (Pipeline.owing owedLaunch) 0 ((c.tc : Thread nD τ), sm))) : sProp 𝕄))
      ⊢ bigSep (Finset.univ.map ⟨csem, csem_injective⟩) fun sm : SemLoc sig =>
        (cred (tallyOn ((c.tc : Thread nD τ), sm) (launchCredit (Pipeline.owing owedLaunch) 0 ((c.tc : Thread nD τ), sm))) : sProp 𝕄) :=
    bigSep_subset (Finset.subset_univ _)
  refine hs.trans ?_
  rw [bigSep_map, bigSep_names, bigSep_lanes]
  refine BIClass.sep_mono (Entails.of_eq (congrArg cred (credit_bar c))) ?_
  iintro ⟨-, H⟩
  have hr : (bigSep Finset.univ fun p : Slot => (cred (tallyOn (recvCell c p.1 p.2) (launchCredit (Pipeline.owing owedLaunch) 0 (recvCell c p.1 p.2))) : sProp 𝕄))
      ⊢ bigSep Finset.univ fun p : Slot => cred (tallyAt (recvCell c p.1 p.2) () N) :=
    Entails.of_eq (bigSep_congr fun p _ => congrArg cred (credit_recv c p.1 p.2))
  iapply hr; iexact H

/-- The lanes of a device, from its places, its rights and its claims. -/
theorem linear_of (c : Dev nD) : iprop(places (F := F) c ∗ bigSep Finset.univ fun p : Slot => cred (tallyAt (recvCell c p.1 p.2) () N))
    ⊢ linear (F := F) c := by
  have hl : (iprop(lanes (F := F) c 0 ∗ lanes (F := F) c 1 ∗ lanes (F := F) c 2) : sProp 𝕄) = bigSep Finset.univ fun p : Slot => lane (F := F) c p.1 p.2 := by
    rw [bigSep_slots]; rfl
  unfold linear places payToks
  rw [hl, bigSep_names, bigSep_lanes, bigSep_three]
  unfold lane
  rw [bigSep_sep', bigSep_sep', bigSep_sep', bigSep_sep']
  iintro ⟨⟨⟨Ha, HaS, HaR⟩, Hb, HtS, HtR⟩, Hc⟩
  isplitl [Ha]; · iexact Ha
  isplitr [Hb]
  · isplitl [HaS]; · iexact HaS
    isplitl [HaR]; · iexact HaR
    isplitl [HtS]; · iexact HtS
    isplitl [HtR] <;> iassumption
  iexact Hb

end Cert.KernelIdeal.Mlp

end
-- ==== Proof.KernelIdeal.Run.lean ====
/-
# The run

The launch of the four devices, from the body's specification and the dealing of the schedule: every execution ends, with
the operands unchanged, every semaphore at zero and device `c`'s result at its rows of the last layer's total.
-/
module

public import proofs.«01_k».proof.Proof.KernelIdeal.Claims
public import proofs.«01_k».proof.Proof.KernelIdeal.Slots
public import Idealize.ShloMosaic.Lib.Pipeline.ValueKit.Geometry
public import Idealize.ShloMosaic.Lib.Pipeline.CollectiveSegs

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The call's data -/

/-- Device `c`'s call: what its arrays hold at the start, what its staging buffers hold after the body, and what it has and
owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => winOf m c 0
    | ⟨2, _⟩ => woutOf m c 0
    | ⟨3, _⟩ => winOf m c 1
    | ⟨4, _⟩ => woutOf m c 1
    | ⟨5, _⟩ => winOf m c 2
    | ⟨6, _⟩ => woutOf m c 2
    | ⟨7, _⟩ => outOf m c
  Φ t := match t with
    | ⟨0, _⟩ => Φ₀ (sent m) c
    | ⟨_ + 1, _⟩ => Φ₁ (sent m) c
  q _ := fullShare
  owed t := match t with
    | ⟨0, _⟩ => owedLaunch c
    | ⟨_ + 1, _⟩ => 0

/-! ## The body -/

section Staged
variable (c : Dev nD)

theorem staged_0 (d) : (dats m ρ 0 c).before (0 : Fin 8) t0_0 d = xIn m c := by
  unfold Dat.before; rw [if_pos (fetch0_0 t0_0)]; exact blk_0 m c
theorem staged_1 (d) : (dats m ρ 0 c).before (1 : Fin 8) t0_0 d = winOf m c 0 := by
  unfold Dat.before; rw [if_pos (fetch0_1 t0_0)]; exact blk_1 m c
theorem staged_2 (d) : (dats m ρ 0 c).before (2 : Fin 8) t0_0 d = woutOf m c 0 := by
  unfold Dat.before; rw [if_pos (fetch0_2 t0_0)]; exact blk_2 m c
theorem staged_3 (d) : (dats m ρ 0 c).before (3 : Fin 8) t0_0 d = winOf m c 1 := by
  unfold Dat.before; rw [if_pos (fetch0_3 t0_0)]; exact blk_3 m c
theorem staged_4 (d) : (dats m ρ 0 c).before (4 : Fin 8) t0_0 d = woutOf m c 1 := by
  unfold Dat.before; rw [if_pos (fetch0_4 t0_0)]; exact blk_4 m c
theorem staged_5 (d) : (dats m ρ 0 c).before (5 : Fin 8) t0_0 d = winOf m c 2 := by
  unfold Dat.before; rw [if_pos (fetch0_5 t0_0)]; exact blk_5 m c
theorem staged_6 (d) : (dats m ρ 0 c).before (6 : Fin 8) t0_0 d = woutOf m c 2 := by
  unfold Dat.before; rw [if_pos (fetch0_6 t0_0)]; exact blk_6 m c

/-- What the call hands the body, -/
def bodyPre : sProp 𝕄 :=
  iprop(Φ₀ (sent m) c ∗ (dats m ρ 0 c).owesAt () t0_0.castSucc
    ∗ (∃ d, holds c cc0_stg0_0 ((dats m ρ 0 c).before (0 : Fin 8) t0_0 d))
    ∗ (∃ d, holds c cc0_stg1_0 ((dats m ρ 0 c).before (1 : Fin 8) t0_0 d))
    ∗ (∃ d, holds c cc0_stg2_0 ((dats m ρ 0 c).before (2 : Fin 8) t0_0 d))
    ∗ (∃ d, holds c cc0_stg3_0 ((dats m ρ 0 c).before (3 : Fin 8) t0_0 d))
    ∗ (∃ d, holds c cc0_stg4_0 ((dats m ρ 0 c).before (4 : Fin 8) t0_0 d))
    ∗ (∃ d, holds c cc0_stg5_0 ((dats m ρ 0 c).before (5 : Fin 8) t0_0 d))
    ∗ (∃ d, holds c cc0_stg6_0 ((dats m ρ 0 c).before (6 : Fin 8) t0_0 d))
    ∗ (∃ d, holds c cc0_stg7_0 ((dats m ρ 0 c).before (7 : Fin 8) t0_0 d)))
/-- and what it wants back. -/
def bodyPost : sProp 𝕄 :=
  iprop(Φ₁ (sent m) c ∗ (dats m ρ 0 c).owesAt () t0_0.succ
    ∗ holds c cc0_stg0_0 (xIn m c) ∗ holds c cc0_stg1_0 (winOf m c 0) ∗ holds c cc0_stg2_0 (woutOf m c 0)
    ∗ holds c cc0_stg3_0 (winOf m c 1) ∗ holds c cc0_stg4_0 (woutOf m c 1) ∗ holds c cc0_stg5_0 (winOf m c 2)
    ∗ holds c cc0_stg6_0 (woutOf m c 2) ∗ holds c cc0_stg7_0 (outOf m c))

theorem body_runs : bodyPre m ρ c ⊢ runs c (bodyProg (F := F)) (fun _ => bodyPost m ρ c) := by
  unfold bodyPre
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [staged_0, staged_1, staged_2, staged_3, staged_4, staged_5, staged_6]
  unfold Dat.owesAt Pipeline.owesWithin
  icases Ho with ⟨%W, %hW, HO⟩
  rw [show (dats m ρ 0 c).owed t0_0.castSucc = owedLaunch c from rfl]
  iapply (body_spec m c (Q := fun _ => bodyPost m ρ c)) $$ [HΦ HO H0 H1 H2 H3 H4 H5 H6 H7]
  · isplitl [HΦ]; · iexact HΦ
    isplitl [HO]; · unfold debt; iexists W; iexact HO
    isplitr [H7]
    · unfold operands
      isplitl [H0]; · iexact H0
      isplitl [H1]; · iexact H1
      isplitl [H2]; · iexact H2
      isplitl [H3]; · iexact H3
      isplitl [H4]; · iexact H4
      isplitl [H5] <;> iassumption
    iexact H7
  unfold operands debt bodyPost Dat.owesAt Pipeline.owesWithin
  rw [show (dats m ρ 0 c).owed t0_0.succ = 0 from rfl]
  iintro ⟨HΦ, ⟨%W', HO⟩, ⟨H0, H1, H2, H3, H4, H5, H6⟩, H7⟩
  isplitl [HΦ]; · iexact HΦ
  isplitl [HO]
  · iexists W'
    isplitr; · (ipureintro; exact fun _ _ => Or.inl trivial)
    iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

set_option maxRecDepth 4000 in
/-- The body meets what the call asks of it. -/
theorem body_obligation : BodyObligation (dats m ρ 0 c) (defs₀ (F := F)) 𝒱₀ () Set.univ := fun t => by
  rw [fin_N0 t, bigSep_W0, bigSep_W0]
  simp only [owns_whole]
  show bodyPre m ρ c ⊢ runs c (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    stageM (Memref.isWhole_whole _) commM (Memref.isWhole_whole _) totalM (Memref.isWhole_whole _) cc0_scratch3 cc0_scratch4)
    (fun _ => bodyPost m ρ c)
  rw [body_eq]
  exact body_runs m ρ c

end Staged

/-! ## The launch -/

theorem ownSemFacts : Pipeline.OwnSemFacts cfg0.spec osem := by decide

theorem share_eq (c : Dev nD) (w : Fin cfg0.W) : (dats m ρ 0 c).share w = fullShare := by unfold Dat.share; split <;> rfl

/-- The bookkeeping at the start: the call's own copies', and the schedule's. -/
def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred owedLaunch c ∗ prngReg c (ρ c) ∗ dealt (sent m) c)
      ⊢ |={Set.univ}=> iprop(start (sent m) c ∗ emp) := by
  unfold dealt start
  iintro ⟨-, Hlev, Hcr, -, ⟨%K, HR, HP⟩⟩
  ihave Hc := (claims (F := F) c) $$ Hcr
  icases Hc with ⟨HB, HC⟩
  ihave HLin := (linear_of (F := F) c) $$ [HP HC]
  · isplitl [HP] <;> iassumption
  imodintro
  isplitl
  · isplitl [HR]; · iexists K; iexact HR
    isplitl [HLin]; · iexact HLin
    isplitl [HB] <;> iassumption
  · iempintro

theorem phi0_intro (c : Dev nD) :
    iprop(start (sent m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (sent m) c from rfl]
  unfold Φ₀
  iintro ⟨Hs, -, Hr⟩
  isplitl [Hs]; · iexact Hs
  iapply (scratch_split (F := F) c); iexact Hr

omit [FloatOps F] in
theorem stageFull_any (P : Sent F) (c : Dev nD) (r : Fin 3) : stageFull P c r ⊢ stageAny (F := F) c r := by
  unfold stageFull stageAny
  iintro H; iexists _; iexact H

omit [FloatOps F] in
/-- What the transfers of a device leave: its own semaphores at zero, and its landing slots. -/
theorem lanes_exit (P : Sent F) (c : Dev nD) : iprop(lanesDone P c 0 ∗ lanesDone P c 1 ∗ lanesDone P c 2)
    ⊢ iprop(Pipeline.ownSems0 (Ix := Unit) (Name := ℕ) (U := UU) (Lvl := ℕ) (Val := Elt F) (τ := τ) osem c
        ∗ column (F := F) c 0 ∗ column (F := F) c 1 ∗ column (F := F) c 2) := by
  have hl : (iprop(lanesDone P c 0 ∗ lanesDone P c 1 ∗ lanesDone P c 2) : sProp 𝕄) = bigSep Finset.univ fun p : Slot => laneDone P c p.1 p.2 := by
    rw [bigSep_slots]; rfl
  have hg : (bigSep Finset.univ fun p : Slot => (commGot P c p.1 p.2 : sProp 𝕄)) ⊢ bigSep Finset.univ fun p : Slot => commAny (F := F) c p.1 p.2 :=
    bigSep_mono fun p _ => commGot_any P c p.1 p.2
  rw [hl]
  unfold Pipeline.ownSems0 laneDone column
  rw [bigSep_sep', bigSep_sep', bigSep_lanes]
  iintro ⟨HS, HV, HG⟩
  isplitl [HS HV]
  · isplitl [HS]; · iexact HS
    iexact HV
  ihave HG := (hg.trans (Entails.of_eq (bigSep_slots (F := F) fun p : Slot => commAny (F := F) c p.1 p.2))) $$ HG
  icases HG with ⟨⟨H00, H01, H02⟩, ⟨H10, H11, H12⟩, H20, H21, H22⟩
  isplitl [H00 H10 H20]
  · isplitl [H00]; · iexact H00
    isplitl [H10] <;> iassumption
  isplitl [H01 H11 H21]
  · isplitl [H01]; · iexact H01
    isplitl [H11] <;> iassumption
  isplitl [H02]; · iexact H02
  isplitl [H12] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (sent m) c from rfl, unscopedSems0_eq]
  unfold Φ₁
  iintro ⟨HB, HL, ⟨Hg0, Hg1, Hg2⟩, Ht⟩
  ihave HL := (lanes_exit (sent m) c) $$ HL
  icases HL with ⟨HS, Hc⟩
  isplitl [HB]; · iexact HB
  isplitl [HS]; · iexact HS
  iapply (scratch_join (F := F) c)
  unfold scratch
  isplitl [Hg0 Hg1 Hg2]
  · isplitl [Hg0]; · iapply (stageFull_any (sent m) c 0); iexact Hg0
    isplitl [Hg1]; · iapply (stageFull_any (sent m) c 1); iexact Hg1
    iapply (stageFull_any (sent m) c 2); iexact Hg2
  isplitl [Hc]; · iexact Hc
  iexact Ht

theorem waits (c : Dev nD) : (levAts L lv : sProp 𝕄) ⊢ Pipeline.cellsWaits cfgs (dats m ρ) () 0 c :=
  Pipeline.cellsWaits_intro cfgs (dats m ρ) () 0 c fun w s t =>
    mayWait (n := 0) (by fin_cases w <;> fin_cases s <;> decide +revert) (by
      rcases t with ⟨_ | _, ht⟩
      · exact above_launch c
      · exact above_zero _)

/-- What the arrays of the call hold after it. -/
def final (c : Dev nD) (w : Fin cfg0.W) : Buf (Elt F) ((cfg0.win w).arr.view.loc (c : Thread nD τ)) := (dats m ρ 0 c).arrAt w cfg0.N

set_option maxRecDepth 8000 in
/-- Every execution ends, with the call's arrays at `final` and every semaphore at zero. -/
theorem run_main : θ_run defs (onTc (τ := τ) (main (F := F))) (s₀ m ρ)
    (fun r => (∀ (c : Dev nD) (w : Fin cfg0.W), r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedLaunch) (howed₀ := fun _ => rfl) (howedN := fun _ => rfl)
    (L := L) (lv := lv) (hL := L_of_ne) (hwaits := waits m ρ)
    (G := deal (sent m)) (G' := dealt (sent m)) (u₀ := u₀)
    (hu₀ := by
      unfold u₀
      iintro Hu
      ihave H := (ownU_pair _ _) $$ Hu
      icases H with ⟨HP, HX⟩
      imod (fund_deal (sent m)) $$ HX with HG
      imodintro
      isplitl [HP] <;> iassumption)
    (hglob := deal_all (sent m))
    (hA := fun _ _ => rfl) (hpf := fun _ k => k.elim0)
    (X := start (sent m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The result array holds the staged result. -/
theorem final_out (c : Dev nD) : final m ρ c (7 : Fin 8) = outOf m c := by
  unfold final
  refine Dat.arrAt_eq_of_after_last (dats m ρ 0 c) (7 : Fin 8) t0_0 (by decide +kernel) (outOf m c) fun j => ?_
  rfl

/-- Every execution ends with the seven operands as they were, the result at `outOf`, and every semaphore at zero. -/
theorem run_values : θ_run defs (onTc (τ := τ) (main (F := F))) (s₀ m ρ) (fun r => (∀ c : Dev nD,
      r.2.mem ((c : Thread nD τ).loc main_v1) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun r h => ⟨fun c => ⟨(h.1 c (7 : Fin 8)).trans (final_out m ρ c),
    (h.1 c (0 : Fin 8)).trans ((dats m ρ 0 c).arrAt_in (0 : Fin 8) rfl _),
    (h.1 c (1 : Fin 8)).trans ((dats m ρ 0 c).arrAt_in (1 : Fin 8) rfl _),
    (h.1 c (3 : Fin 8)).trans ((dats m ρ 0 c).arrAt_in (3 : Fin 8) rfl _),
    (h.1 c (5 : Fin 8)).trans ((dats m ρ 0 c).arrAt_in (5 : Fin 8) rfl _),
    (h.1 c (2 : Fin 8)).trans ((dats m ρ 0 c).arrAt_in (2 : Fin 8) rfl _),
    (h.1 c (4 : Fin 8)).trans ((dats m ρ 0 c).arrAt_in (4 : Fin 8) rfl _),
    (h.1 c (6 : Fin 8)).trans ((dats m ρ 0 c).arrAt_in (6 : Fin 8) rfl _)⟩, h.2⟩) (run_main m ρ)

end Cert.KernelIdeal.Mlp

end
-- ==== Proof.Layer.lean ====
/-
# One layer, over the extended reals

A layer `relu (x · w) · v` with its hidden features cut into four blocks is the sum of the four layers of the blocks.
-/
module

public import proofs.«01_k».proof.Defs
public import Idealize.ShloMosaic.Lib.Layout
public import Idealize.ShloMosaic.Lib.ValueIdx
public import Idealize.ShloMosaic.Lib.MatmulPlain
public import Idealize.ShloMosaic.Lib.StackMember
public import Idealize.ShloMosaic.Lib.KernelVsHost

@[expose] public section

noncomputable section

namespace Cert.Layer

open Idealize.ShloMosaic Idealize.ShloMosaic.ValueIdx
open scoped BigOperators

/-- The indices of a matrix of `m` rows and `n` columns. -/
abbrev Ix (m n : ℕ) : Type := (⟨2, ![m, n]⟩ : Shape).Idx

/-- The product of two matrices, -/
def dense {m k n : ℕ} (x : Ix m k → EReal) (w : Ix k n → EReal) : Ix m n → EReal := fun j => ∑ l : Fin k, x (ix2 (j 0) l) * w (ix2 l (j 1))
/-- the positive part, -/
def relu {m n : ℕ} (x : Ix m n → EReal) : Ix m n → EReal := fun j => max (x j) 0
/-- and one layer of the network with `h` hidden features. -/
def layer {h : ℕ} (x : Ix 128 128 → EReal) (w : Ix 128 h → EReal) (v : Ix h 128 → EReal) : Ix 128 128 → EReal := dense (relu (dense x w)) v

/-- A sum over 1024 positions is the sum over four blocks of 256. -/
theorem sum_in_blocks (f : Fin 1024 → EReal) :
    ∑ k : Fin 1024, f k = ∑ c : Fin 4, ∑ l : Fin 256, f ⟨c.val * 256 + l.val, by have := c.isLt; have := l.isLt; omega⟩ := by
  rw [← Equiv.sum_comp (finProdFinEquiv (m := 4) (n := 256)) f, Fintype.sum_prod_type]
  refine Finset.sum_congr rfl fun c _ => Finset.sum_congr rfl fun l _ => congrArg f (Fin.ext ?_)
  show l.val + 256 * c.val = c.val * 256 + l.val
  omega

/-- Where a column block's columns are, -/
theorem col_block (c : Fin 4) (w : Ix 128 1024 → EReal) (r : Fin 128) (l : Fin 256) :
    Layout.block ⟨2, ![128, 256]⟩ ⟨2, ![128, 1024]⟩ 1 4 c w (by decide) (ix2 r l)
      = w (ix2 r ⟨c.val * 256 + l.val, by have := c.isLt; have := l.isLt; omega⟩) := by
  refine congrArg w (funext fun a => Fin.ext ?_)
  match a with
  | ⟨0, _⟩ => rfl
  | ⟨1, _⟩ => rfl
/-- and a row block's rows. -/
theorem row_block (c : Fin 4) (v : Ix 1024 128 → EReal) (l : Fin 256) (r : Fin 128) :
    Layout.block ⟨2, ![256, 128]⟩ ⟨2, ![1024, 128]⟩ 0 4 c v (by decide) (ix2 l r)
      = v (ix2 ⟨c.val * 256 + l.val, by have := c.isLt; have := l.isLt; omega⟩ r) := by
  refine congrArg v (funext fun a => Fin.ext ?_)
  match a with
  | ⟨0, _⟩ => rfl
  | ⟨1, _⟩ => rfl

/-- The whole layer is the sum of the blocks' layers. -/
theorem layer_in_blocks (x : Ix 128 128 → EReal) (w : Ix 128 1024 → EReal) (v : Ix 1024 128 → EReal) (j : Ix 128 128) :
    layer x w v j = ∑ c : Fin 4, layer x (Layout.block ⟨2, ![128, 256]⟩ ⟨2, ![128, 1024]⟩ 1 4 c w)
      (Layout.block ⟨2, ![256, 128]⟩ ⟨2, ![1024, 128]⟩ 0 4 c v) j := by
  refine (sum_in_blocks fun k => relu (dense x w) (ix2 (j 0) k) * v (ix2 k (j 1))).trans
    (Finset.sum_congr rfl fun c _ => ?_)
  show _ = ∑ l : Fin 256, relu (dense x (Layout.block ⟨2, ![128, 256]⟩ ⟨2, ![128, 1024]⟩ 1 4 c w)) (ix2 (j 0) l)
    * Layout.block ⟨2, ![256, 128]⟩ ⟨2, ![1024, 128]⟩ 0 4 c v (by decide) (ix2 l (j 1))
  refine Finset.sum_congr rfl fun l _ => ?_
  refine congrArg₂ (· * ·) (congrArg (fun z : EReal => max z 0) (Finset.sum_congr rfl fun i _ => congrArg (x (ix2 (j 0) i) * ·) ?_)) ?_
  · exact (col_block c w i l).symm
  · exact (row_block c v l (j 1)).symm

/-! ## The programs' operations -/

/-- A kernel's product with the zero accumulator, -/
theorem matmul_dense {m k n : ℕ} {φ₁ φ₂ : FTy} (x : FVec Ideal ⟨2, ![m, k]⟩ φ₁) (w : FVec Ideal ⟨2, ![k, n]⟩ φ₂) :
    matmul (DotDims.plain m k n) none x w (constant ⟨2, ![m, n]⟩ .f32 0x00000000#32) = dense x w := by
  rw [matmul_zero_eq_dotGeneral]
  funext j
  rw [eq_ix2 j]
  exact StackMember.dotGeneral_plain_apply none x w (j 0) (j 1)
/-- and the host's product. -/
theorem dotGeneral_dense {m k n : ℕ} {φ₁ φ₂ : FTy} (x : FVec Ideal ⟨2, ![m, k]⟩ φ₁) (w : FVec Ideal ⟨2, ![k, n]⟩ φ₂) :
    Host.dotGeneral (DotDims.plain m k n) none x w = dense x w := by
  funext j
  rw [eq_ix2 j]
  exact StackMember.dotGeneral_plain_apply none x w (j 0) (j 1)

/-- The zero of `bfloat16`. -/
theorem zero_bf16 : Ideal.ofBits .bf16 0x0000#16 = 0 := by simp [Ideal.ofBits, Ideal.ieee]

end Cert.Layer

end
-- ==== Proof.KernelIdeal.Totals.lean ====
/-
# What the kernel computes

Over the extended reals: each device's partial result is the layer of its blocks, its total the sum of the four devices'
partial results, hence the whole layer; so every device goes into the next layer with the same activations.
-/
module

public import proofs.«01_k».proof.Proof.KernelIdeal.Values
public import proofs.«01_k».proof.Proof.Layer

@[expose] public section

noncomputable section

namespace Cert.KernelIdeal.Mlp

open Cert.KernelIdeal Cert.KernelIdeal.Gen Cert.Layer

open Idealize.ShloMosaic
open Idealize.ShloMosaic.TcCoe
open scoped BigOperators

/-! ## The operations of one layer -/

/-- The partial result of a layer, -/
theorem partial_eq (x : FVec Ideal S128x128 .bf16) (w : FVec Ideal S128x256 .bf16) (v : FVec Ideal S256x128 .bf16) : k0_pay2 (F := Ideal) x w v = layer x w v := by
  show matmul (DotDims.plain 128 256 128) none
      (maximumf (F := Ideal) (φ := .f32) (matmul (DotDims.plain 128 128 256) none (shapeCast S128x128 x shapeCasts_S128x128_S128x128)
        (shapeCast S128x256 w shapeCasts_S128x256_S128x256) (constant S128x256 .f32 0x00000000#32))
        (broadcast S128x256 (Scalar.ofBits .f32 0x00000000#32)) : FVec Ideal S128x256 .bf16)
      (shapeCast S256x128 v shapeCasts_S256x128_S256x128) (constant S128x128 .f32 0x00000000#32) = _
  rw [shapeCast_self, shapeCast_self, shapeCast_self, matmul_dense (φ₁ := .bf16) (φ₂ := .bf16) x w]
  have hm : (maximumf (F := Ideal) (φ := .f32) (dense x w) (broadcast S128x256 (Scalar.ofBits .f32 0x00000000#32)) : Ix 128 256 → EReal)
      = relu (dense x w) := funext fun i => congrArg (max (dense x w i)) Ideal.ofBits_zero_f32
  rw [hm]
  exact matmul_dense (φ₁ := .bf16) (φ₂ := .bf16) (relu (dense x w)) v
/-- the same in the later layers, -/
theorem partial_eq' (x : FVec Ideal S128x128 .f32) (w : FVec Ideal S128x256 .bf16) (v : FVec Ideal S256x128 .bf16) : k0_pay5 (F := Ideal) x w v = layer x w v := by
  refine Eq.trans ?_ (partial_eq x w v)
  unfold k0_pay2
  rw [shapeCast_self x]
  rfl
/-- what is sent of it, -/
theorem sent_eq (y : FVec Ideal S128x128 .bf16) : asMat (F := Ideal) (shapeCast S1x128x128 y shapeCasts_S128x128_S1x128x128) = y := by
  funext i
  show y (Shape.reshapeEquiv _ (Shape.reshapeEquiv _ i)) = y i
  rw [Shape.reshapeEquiv_reshapeEquiv, Shape.reshapeEquiv_self]
/-- what is read of what was sent, -/
theorem landed_eq (X : Mat Ideal) : shapeCast S128x128 (asLanded X) shapeCasts_S1x1x128x128_S128x128 = X := by
  funext i
  show X ((Shape.reshapeEquiv _).symm (Shape.reshapeEquiv _ i)) = X i
  rw [Equiv.symm_apply_apply]
/-- and the total. -/
theorem total_eq (p : FVec Ideal S128x128 .f32) (X Y Z : Mat Ideal) (j : Ix 128 128) :
    k0_pay4 (F := Ideal) p (asLanded X) (asLanded Y) (asLanded Z) j = p j + X j + Y j + Z j := by
  show p j + shapeCast S128x128 (asLanded X) shapeCasts_S1x1x128x128_S128x128 j + shapeCast S128x128 (asLanded Y) shapeCasts_S1x1x128x128_S128x128 j
    + shapeCast S128x128 (asLanded Z) shapeCasts_S1x1x128x128_S128x128 j = _
  rw [landed_eq, landed_eq, landed_eq]

/-- A device's own and the three others' are all four devices'. -/
theorem sum_of_four (f : Dev nD → EReal) (c : Dev nD) :
    f c + f (fwd c (Fin.rev 0)) + f (fwd c (Fin.rev 1)) + f (fwd c (Fin.rev 2)) = ∑ d : Fin 4, f d := by
  rw [Fin.sum_univ_four]
  fin_cases c
  · show f 0 + f 3 + f 2 + f 1 = f 0 + f 1 + f 2 + f 3; abel
  · show f 1 + f 0 + f 3 + f 2 = f 0 + f 1 + f 2 + f 3; abel
  · show f 2 + f 1 + f 0 + f 3 = f 0 + f 1 + f 2 + f 3; abel
  · show f 3 + f 2 + f 1 + f 0 = f 0 + f 1 + f 2 + f 3; abel

/-! ## Layer by layer -/

section Layers
variable (m : (ℓ : Loc nD τ sig) → Buf (Elt Ideal) ℓ)
variable (x : Ix 128 128 → EReal) (w : Fin 3 → Ix 128 1024 → EReal) (v : Fin 3 → Ix 1024 128 → EReal)

/-- The memory holds the activations on every device, and the weights' blocks. -/
structure Holds : Prop where
  x_eq : ∀ c, xIn m c = x
  w_eq : ∀ c r, winOf m c r = Layout.block ⟨2, ![128, 256]⟩ ⟨2, ![128, 1024]⟩ 1 4 c (w r)
  v_eq : ∀ c r, woutOf m c r = Layout.block ⟨2, ![256, 128]⟩ ⟨2, ![1024, 128]⟩ 0 4 c (v r)

/-- The layer of device `c`'s blocks. -/
def blockLayer (r : Fin 3) (y : Ix 128 128 → EReal) (c : Dev nD) : Ix 128 128 → EReal :=
  layer y (Layout.block ⟨2, ![128, 256]⟩ ⟨2, ![128, 1024]⟩ 1 4 c (w r)) (Layout.block ⟨2, ![256, 128]⟩ ⟨2, ![1024, 128]⟩ 0 4 c (v r))

/-- One layer's exchange: with the devices' partial results the layers of their blocks, the total is the whole layer. -/
theorem exchange_total (r : Fin 3) (y : Ix 128 128 → EReal) (c : Dev nD) (p : FVec Ideal S128x128 .f32) (s : Dev nD → Mat Ideal)
    (hp : p = blockLayer w v r y c) (hs : ∀ d, s d = blockLayer w v r y d) :
    k0_pay4 p (asLanded (s (fwd c (Fin.rev 0)))) (asLanded (s (fwd c (Fin.rev 1)))) (asLanded (s (fwd c (Fin.rev 2)))) = layer y (w r) (v r) := by
  funext j
  refine (total_eq _ _ _ _ j).trans ?_
  rw [hp, hs, hs, hs]
  exact (sum_of_four (fun d => blockLayer w v r y d j) c).trans (layer_in_blocks y (w r) (v r) j).symm

variable {m x w v} (h : Holds m x w v)
include h

theorem sent0_eq (c : Dev nD) : sent0 m c = blockLayer w v 0 x c := by
  refine (sent_eq _).trans ?_
  refine (partial_eq (xIn m c) (winOf m c 0) (woutOf m c 0)).trans ?_
  rw [h.x_eq, h.w_eq, h.v_eq]; rfl
theorem tot0_eq (c : Dev nD) : tot0 m c = layer x (w 0) (v 0) :=
  exchange_total w v 0 x c _ (sent0 m) (by
    refine (partial_eq (xIn m c) (winOf m c 0) (woutOf m c 0)).trans ?_
    rw [h.x_eq, h.w_eq, h.v_eq]; rfl) (sent0_eq h)
theorem part1_eq (c : Dev nD) : k0_pay5 (F := Ideal) (tot0 m c) (winOf m c 1) (woutOf m c 1) = blockLayer w v 1 (layer x (w 0) (v 0)) c := by
  rw [partial_eq', tot0_eq h, h.w_eq, h.v_eq]; rfl
theorem sent1_eq (c : Dev nD) : sent1 m c = blockLayer w v 1 (layer x (w 0) (v 0)) c := (sent_eq _).trans (part1_eq h c)
theorem tot1_eq (c : Dev nD) : tot1 m c = layer (layer x (w 0) (v 0)) (w 1) (v 1) :=
  exchange_total w v 1 _ c _ (sent1 m) (part1_eq h c) (sent1_eq h)
theorem part2_eq (c : Dev nD) : k0_pay8 (F := Ideal) (tot1 m c) (winOf m c 2) (woutOf m c 2) = blockLayer w v 2 (layer (layer x (w 0) (v 0)) (w 1) (v 1)) c := by
  refine (partial_eq' _ _ _).trans ?_
  rw [tot1_eq h, h.w_eq, h.v_eq]; rfl
theorem sent2_eq (c : Dev nD) : sent2 m c = blockLayer w v 2 (layer (layer x (w 0) (v 0)) (w 1) (v 1)) c := (sent_eq _).trans (part2_eq h c)
theorem tot2_eq (c : Dev nD) : tot2 m c = layer (layer (layer x (w 0) (v 0)) (w 1) (v 1)) (w 2) (v 2) :=
  exchange_total w v 2 _ c _ (sent2 m) (part2_eq h c) (sent2_eq h)

/-- Device `c`'s result is its block of rows of the three layers. -/
theorem out_eq (c : Dev nD) : outOf m c
    = Layout.block ⟨2, ![32, 128]⟩ ⟨2, ![128, 128]⟩ 0 4 c (layer (layer (layer x (w 0) (v 0)) (w 1) (v 1)) (w 2) (v 2)) := by
  have hk : kept m c = layer (layer (layer x (w 0) (v 0)) (w 1) (v 1)) (w 2) (v 2) := by
    unfold kept k0_pay1
    rw [tot2_eq h]
    exact shapeCast_self _ _
  unfold outOf
  rw [hk]
  funext i
  refine congrArg (layer (layer (layer x (w 0) (v 0)) (w 1) (v 1)) (w 2) (v 2)) (funext fun a => Fin.ext ?_)
  have e := congrFun (k0_off1_eq c) a
  match a with
  | ⟨0, _⟩ =>
    show k0_off1 c 0 + 1 * (i 0).val = c.val * 32 + (i 0).val
    have e0 : k0_off1 c 0 = 32 * c.val := e
    omega
  | ⟨1, _⟩ =>
    show k0_off1 c 1 + 1 * (i 1).val = (i 1).val
    have e1 : k0_off1 c 1 = 0 := e
    omega

end Layers

end Cert.KernelIdeal.Mlp

end
-- ==== Proof.ReferenceValue.lean ====
/-
# What the reference computes

Over the extended reals the casts between the float formats change nothing, and the reference's result is three layers.
-/
module

public import proofs.«01_k».proof.Proof.Layer
public import proofs.«01_k».proof.Proof.Gen.ReferenceIdeal.Run

@[expose] public section

noncomputable section

namespace Cert.ReferenceIdeal.Mlp

open Cert.ReferenceIdeal Cert.ReferenceIdeal.Gen Cert.Layer
open Idealize.ShloMosaic Idealize.ShloMosaic.TcCoe Idealize.SL.Sem

/-- The three layers. -/
def result (x : Ix 128 128 → EReal) (w₀ w₁ w₂ : Ix 128 1024 → EReal) (v₀ v₁ v₂ : Ix 1024 128 → EReal) : Ix 128 128 → EReal :=
  layer (layer (layer x w₀ v₀) w₁ v₁) w₂ v₂

/-- One layer as the reference writes it. -/
theorem step_eq (x : FVec Ideal S128x128 .bf16) (w : FVec Ideal S128x1024 .bf16) (v : FVec Ideal S1024x128 .bf16) :
    (truncf .bf16 (Host.dotGeneral dot_S128x1024_S1024x128_S128x128_1_0_0_1_n_n none
      (maximumf (truncf .bf16 (Host.dotGeneral dot_S128x128_S128x1024_S128x1024_1_0_0_1_n_n none x w) bitsLt_bf16_f32)
        (broadcastInDim S128x1024 ![] bcast_S_S128x1024 (constant S_ .bf16 0x0000#16))) v) bitsLt_bf16_f32 : FVec Ideal S128x128 .bf16)
      = layer x w v := by
  show Host.dotGeneral (DotDims.plain 128 1024 128) none
      (maximumf (F := Ideal) (φ := .bf16) (Host.dotGeneral (DotDims.plain 128 128 1024) none x w)
        (broadcastInDim S128x1024 ![] bcast_S_S128x1024 (constant S_ .bf16 0x0000#16))) v = _
  have hm : (maximumf (F := Ideal) (φ := .bf16) (dense x w)
      (broadcastInDim S128x1024 ![] bcast_S_S128x1024 (constant S_ .bf16 0x0000#16)) : Ix 128 1024 → EReal) = relu (dense x w) :=
    funext fun i => congrArg (max (dense x w i)) zero_bf16
  rw [dotGeneral_dense (φ₁ := .bf16) (φ₂ := .bf16) x w, hm, dotGeneral_dense (φ₁ := .bf16) (φ₂ := .bf16)]
  rfl

variable (m : (ℓ : Loc nD τ sig) → Buf (Elt Ideal) ℓ) (ρ : Dev nD → PrngReg)

/-- The result on the arrays of the launch. -/
def resultOf (c : Dev nD) : Ix 128 128 → EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- Every execution of the reference ends with its result at the three layers and its arguments unchanged. -/
theorem run_result : θ_run defs (onTc (τ := τ) (main (F := Ideal))) ⟨m, fun _ => 0, ρ⟩ fun r => ∀ c : Dev nD,
      r.2.mem ((c.tc : Thread nD τ).loc main_v18) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (by rw [step_eq, step_eq, step_eq]; rfl), (h c).2⟩) (Cert.ReferenceIdeal.Value.run m ρ)

end Cert.ReferenceIdeal.Mlp

end
-- ==== Proof.lean ====
/-
# The claim

The kernel's runs and the reference's, put together: the two frames of the kernel and the reference's are those runs with the
values dropped, and the equation is the kernel's run over the extended reals, whose results are the row blocks of the three
layers the reference computes.
-/
module

public import proofs.«01_k».proof.Defs
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Totals
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.SL.Sem

/-- The kernel ends, with its operands unchanged and every semaphore at zero, for the device's floats, -/
theorem frame_kernel : Cert.quiescent_Kernel (hKernel := Cert.Kernel.Gen.facts) := fun m g _ =>
  (θ_run _ _ _).mono (fun _ h => ⟨fun c => (h.1 c).2, h.2⟩) (Cert.Kernel.Mlp.run_values m g)

/-- and for the extended reals. -/
theorem frame_kernel_ideal : Cert.quiescent_KernelIdeal (hKernelIdeal := Cert.KernelIdeal.Gen.facts) := fun m g _ =>
  (θ_run _ _ _).mono (fun _ h => ⟨fun c => (h.1 c).2, h.2⟩) (Cert.KernelIdeal.Mlp.run_values m g)

/-- So does the reference, which has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Mlp.run_result m g)

/-- The kernel's results are the row blocks of the reference's. -/
theorem equation : Cert.algebraic_KernelIdeal_ReferenceIdeal (hKernelIdeal := Cert.KernelIdeal.Gen.facts)
    (hReferenceIdeal := Cert.ReferenceIdeal.Gen.facts) := fun m g m' g' _ hm =>
  have hh : Cert.KernelIdeal.Mlp.Holds m
      (m' (((0 : Dev Cert.ReferenceIdeal.nD).tc : Thread Cert.ReferenceIdeal.nD Cert.ReferenceIdeal.τ).loc Cert.ReferenceIdeal.main_arg0))
      (fun | 0 => m' (((0 : Dev Cert.ReferenceIdeal.nD).tc : Thread Cert.ReferenceIdeal.nD Cert.ReferenceIdeal.τ).loc Cert.ReferenceIdeal.main_arg1)
           | 1 => m' (((0 : Dev Cert.ReferenceIdeal.nD).tc : Thread Cert.ReferenceIdeal.nD Cert.ReferenceIdeal.τ).loc Cert.ReferenceIdeal.main_arg2)
           | 2 => m' (((0 : Dev Cert.ReferenceIdeal.nD).tc : Thread Cert.ReferenceIdeal.nD Cert.ReferenceIdeal.τ).loc Cert.ReferenceIdeal.main_arg3))
      (fun | 0 => m' (((0 : Dev Cert.ReferenceIdeal.nD).tc : Thread Cert.ReferenceIdeal.nD Cert.ReferenceIdeal.τ).loc Cert.ReferenceIdeal.main_arg4)
           | 1 => m' (((0 : Dev Cert.ReferenceIdeal.nD).tc : Thread Cert.ReferenceIdeal.nD Cert.ReferenceIdeal.τ).loc Cert.ReferenceIdeal.main_arg5)
           | 2 => m' (((0 : Dev Cert.ReferenceIdeal.nD).tc : Thread Cert.ReferenceIdeal.nD Cert.ReferenceIdeal.τ).loc Cert.ReferenceIdeal.main_arg6)) :=
    { x_eq := fun c => (hm c).1
      w_eq := fun c r => match r with
        | 0 => (hm c).2.1
        | 1 => (hm c).2.2.1
        | 2 => (hm c).2.2.2.1
      v_eq := fun c r => match r with
        | 0 => (hm c).2.2.2.2.1
        | 1 => (hm c).2.2.2.2.2.1
        | 2 => (hm c).2.2.2.2.2.2 }
  ⟨Cert.ReferenceIdeal.Mlp.resultOf m' 0,
    (θ_run _ _ _).mono (fun _ h c => ⟨(h.1 c).1.trans (Cert.KernelIdeal.Mlp.out_eq hh c), (h.1 c).2⟩) (Cert.KernelIdeal.Mlp.run_values m g),
    (θ_run _ _ _).mono (fun _ h => h 0) (Cert.ReferenceIdeal.Mlp.run_result m' g')⟩

theorem claim : Cert.Claim := ⟨Cert.Kernel.Gen.facts, Cert.KernelIdeal.Gen.facts, Cert.ReferenceIdeal.Gen.facts,
  frame_kernel, frame_kernel_ideal, frame_reference, trivial, equation⟩

end Cert.Proof

end
